-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_on_separated_rows [hKernelIdeal : Cert.KernelIdeal.Facts] [hReferenceIdeal : Cert.ReferenceIdeal.Facts] [hOn_separated_rows : Cert.On_separated_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1, 2048, 1024]⟩ : Shape).Idx, (Cert.On_separated_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.KernelIdeal.nD Cert.KernelIdeal.τ).loc Cert.KernelIdeal.main_v79) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 2048, 1024]⟩ : Shape).Idx, (Cert.On_separated_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.ReferenceIdeal.nD Cert.ReferenceIdeal.τ).loc Cert.ReferenceIdeal.main_v193) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hOn_separated_rows : Cert.On_separated_rows.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separated_rows (hKernelIdeal := hKernelIdeal) (hReferenceIdeal := hReferenceIdeal) (hOn_separated_rows := hOn_separated_rows)
-- ==== On_separated_rows.lean ====
abbrev S1x2048x1024 : Shape := ⟨3, ![1, 2048, 1024]⟩
abbrev S2048 : Shape := ⟨1, ![2048]⟩
abbrev S3072x1024 : Shape := ⟨2, ![3072, 1024]⟩
abbrev S1024x1024 : Shape := ⟨2, ![1024, 1024]⟩
abbrev S1024 : Shape := ⟨1, ![1024]⟩
abbrev S4 : Shape := ⟨1, ![4]⟩
abbrev S1 : Shape := ⟨1, ![1]⟩
abbrev S1x2048x1 : Shape := ⟨3, ![1, 2048, 1]⟩
abbrev S1x1x1024 : Shape := ⟨3, ![1, 1, 1024]⟩
abbrev S_ : Shape := ⟨0, ![]⟩
abbrev S1x1x1 : Shape := ⟨3, ![1, 1, 1]⟩
abbrev S1024x3072 : Shape := ⟨2, ![1024, 3072]⟩
abbrev S1x2048x3072 : Shape := ⟨3, ![1, 2048, 3072]⟩
abbrev S1x2051x1024 : Shape := ⟨3, ![1, 2051, 1024]⟩
abbrev S1x2048x1024x1 : Shape := ⟨4, ![1, 2048, 1024, 1]⟩
abbrev S1x2048x1024x4 : Shape := ⟨4, ![1, 2048, 1024, 4]⟩
abbrev S1x1x1x4 : Shape := ⟨4, ![1, 1, 1, 4]⟩
abbrev S1x2048x16x64 : Shape := ⟨4, ![1, 2048, 16, 64]⟩
abbrev S1x16x2048x64 : Shape := ⟨4, ![1, 16, 2048, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x1x2048x32 : Shape := ⟨4, ![1, 1, 2048, 32]⟩
abbrev S1x16x2048x32 : Shape := ⟨4, ![1, 16, 2048, 32]⟩
abbrev S1x16x2048x32x1 : Shape := ⟨5, ![1, 16, 2048, 32, 1]⟩
abbrev S1x16x2048x32x2 : Shape := ⟨5, ![1, 16, 2048, 32, 2]⟩
abbrev S1x16x2048x1x64 : Shape := ⟨5, ![1, 16, 2048, 1, 64]⟩
abbrev S1x16x1x2048x64 : Shape := ⟨5, ![1, 16, 1, 2048, 64]⟩
abbrev S1x16x2048x2048x64 : Shape := ⟨5, ![1, 16, 2048, 2048, 64]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x205 : Shape := ⟨4, ![1, 16, 2048, 205]⟩
abbrev S1x16x2048x1 : Shape := ⟨4, ![1, 16, 2048, 1]⟩
abbrev S1x1x2048 : Shape := ⟨3, ![1, 1, 2048]⟩
abbrev S1x2048 : Shape := ⟨2, ![1, 2048]⟩

class Facts : Prop where
  shapeCasts_S2048_S1x2048x1 : S2048.ShapeCasts S1x2048x1
  shapeCasts_S1024_S1x1x1024 : S1024.ShapeCasts S1x1x1024
  bcast_S_S1x1x1024 : S_.BroadcastsInDim S1x1x1024 (![] : Fin 0 → Fin S1x1x1024.rank)
  bcast_S1x1x1024_S1x2048x1024_0_1_2 : S1x1x1024.BroadcastsInDim S1x2048x1024 (![0, 1, 2] : Fin 3 → Fin S1x2048x1024.rank)
  bcast_S1x2048x1_S1x2048x1024_0_1_2 : S1x2048x1.BroadcastsInDim S1x2048x1024 (![0, 1, 2] : Fin 3 → Fin S1x2048x1024.rank)
  bcast_S_S1x2048x1024 : S_.BroadcastsInDim S1x2048x1024 (![] : Fin 0 → Fin S1x2048x1024.rank)
  bcast_S_S1 : S_.BroadcastsInDim S1 (![] : Fin 0 → Fin S1.rank)
  bcast_S1_S1x1x1_2 : S1.BroadcastsInDim S1x1x1 (![2] : Fin 1 → Fin S1x1x1.rank)
  bcast_S1x1x1_S1x2048x1_0_1_2 : S1x1x1.BroadcastsInDim S1x2048x1 (![0, 1, 2] : Fin 3 → Fin S1x2048x1.rank)
  bcast_S_S1x2048x1 : S_.BroadcastsInDim S1x2048x1 (![] : Fin 0 → Fin S1x2048x1.rank)
  transposes_S3072x1024_S1024x3072_1_0 : S3072x1024.Transposes [1, 0] S1024x3072
  slices_S1x2048x3072_S1x2048x1024_0_0_0 : S1x2048x3072.Slices ![0, 0, 0] S1x2048x1024
  slices_S1x2048x3072_S1x2048x1024_0_0_1024 : S1x2048x3072.Slices ![0, 0, 1024] S1x2048x1024
  slices_S1x2048x3072_S1x2048x1024_0_0_2048 : S1x2048x3072.Slices ![0, 0, 2048] S1x2048x1024
  pads_S1x2048x1024_S1x2051x1024_000_300_000 : S1x2048x1024.Pads (![0, 3, 0] : Fin 3 → Nat) ![0, 0, 0] ![0, 0, 0] S1x2051x1024
  h_S_ : 0 < S_.numel
  slices_S1x2051x1024_S1x2048x1024_0_0_0 : S1x2051x1024.Slices ![0, 0, 0] S1x2048x1024
  slices_S1x2051x1024_S1x2048x1024_0_1_0 : S1x2051x1024.Slices ![0, 1, 0] S1x2048x1024
  slices_S1x2051x1024_S1x2048x1024_0_2_0 : S1x2051x1024.Slices ![0, 2, 0] S1x2048x1024
  slices_S1x2051x1024_S1x2048x1024_0_3_0 : S1x2051x1024.Slices ![0, 3, 0] S1x2048x1024
  bcast_S1x2048x1024_S1x2048x1024x1_0_1_2 : S1x2048x1024.BroadcastsInDim S1x2048x1024x1 (![0, 1, 2] : Fin 3 → Fin S1x2048x1024x1.rank)
  concatenates_S1x2048x1024x1_S1x2048x1024x1_S1x2048x1024x1_S1x2048x1024x1_S1x2048x1024x4_d3 : Shape.Concatenates [S1x2048x1024x1, S1x2048x1024x1, S1x2048x1024x1, S1x2048x1024x1] S1x2048x1024x4 3
  shapeCasts_S4_S1x1x1x4 : S4.ShapeCasts S1x1x1x4
  bcast_S1x1x1x4_S1x2048x1024x4_0_1_2_3 : S1x1x1x4.BroadcastsInDim S1x2048x1024x4 (![0, 1, 2, 3] : Fin 4 → Fin S1x2048x1024x4.rank)
  reducesTo_S1x2048x1024x4_S1x2048x1024_d3 : S1x2048x1024x4.ReducesTo [3] S1x2048x1024
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  bcast_S_S32 : S_.BroadcastsInDim S32 (![] : Fin 0 → Fin S32.rank)
  bcast_S2048_S2048x1_0 : S2048.BroadcastsInDim S2048x1 (![0] : Fin 1 → Fin S2048x1.rank)
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  bcast_S2048x32_S1x1x2048x32_2_3 : S2048x32.BroadcastsInDim S1x1x2048x32 (![2, 3] : Fin 2 → Fin S1x1x2048x32.rank)
  slicesBy_S1x16x2048x64_S1x16x2048x32_0s1_0s1_0s1_0s2 : S1x16x2048x64.SlicesBy (![0, 0, 0, 0] : Fin 4 → Nat) ![1, 1, 1, 2] S1x16x2048x32
  slicesBy_S1x16x2048x64_S1x16x2048x32_0s1_0s1_0s1_1s2 : S1x16x2048x64.SlicesBy (![0, 0, 0, 1] : Fin 4 → Nat) ![1, 1, 1, 2] S1x16x2048x32
  bcast_S1x1x2048x32_S1x16x2048x32_0_1_2_3 : S1x1x2048x32.BroadcastsInDim S1x16x2048x32 (![0, 1, 2, 3] : Fin 4 → Fin S1x16x2048x32.rank)
  bcast_S1x16x2048x32_S1x16x2048x32x1_0_1_2_3 : S1x16x2048x32.BroadcastsInDim S1x16x2048x32x1 (![0, 1, 2, 3] : Fin 4 → Fin S1x16x2048x32x1.rank)
  concatenates_S1x16x2048x32x1_S1x16x2048x32x1_S1x16x2048x32x2_d4 : Shape.Concatenates [S1x16x2048x32x1, S1x16x2048x32x1] S1x16x2048x32x2 4
  shapeCasts_S1x16x2048x32x2_S1x16x2048x64 : S1x16x2048x32x2.ShapeCasts S1x16x2048x64
  bcast_S1x16x2048x64_S1x16x2048x1x64_0_1_2_4 : S1x16x2048x64.BroadcastsInDim S1x16x2048x1x64 (![0, 1, 2, 4] : Fin 4 → Fin S1x16x2048x1x64.rank)
  bcast_S1x16x2048x64_S1x16x1x2048x64_0_1_3_4 : S1x16x2048x64.BroadcastsInDim S1x16x1x2048x64 (![0, 1, 3, 4] : Fin 4 → Fin S1x16x1x2048x64.rank)
  bcast_S1x16x2048x1x64_S1x16x2048x2048x64_0_1_2_3_4 : S1x16x2048x1x64.BroadcastsInDim S1x16x2048x2048x64 (![0, 1, 2, 3, 4] : Fin 5 → Fin S1x16x2048x2048x64.rank)
  bcast_S1x16x1x2048x64_S1x16x2048x2048x64_0_1_2_3_4 : S1x16x1x2048x64.BroadcastsInDim S1x16x2048x2048x64 (![0, 1, 2, 3, 4] : Fin 5 → Fin S1x16x2048x2048x64.rank)
  reducesTo_S1x16x2048x2048x64_S1x16x2048x2048_d4 : S1x16x2048x2048x64.ReducesTo [4] S1x16x2048x2048
  bcast_S_S1x16x2048x2048 : S_.BroadcastsInDim S1x16x2048x2048 (![] : Fin 0 → Fin S1x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S1x16x2048x2048_0_1_2_3 : S1x1x2048x2048.BroadcastsInDim S1x16x2048x2048 (![0, 1, 2, 3] : Fin 4 → Fin S1x16x2048x2048.rank)
  reducesTo_S1x16x2048x2048_S1x16x2048_d3 : S1x16x2048x2048.ReducesTo [3] S1x16x2048
  sliceFits_S1x16x2048x2048_S1x16x2048x205 : S1x16x2048x2048.Slices (fun _ => 0) S1x16x2048x205
  slices_S1x16x2048x205_S1x16x2048x1_0_0_0_203 : S1x16x2048x205.Slices ![0, 0, 0, 203] S1x16x2048x1
  shapeCasts_S1x16x2048x1_S1x16x2048 : S1x16x2048x1.ShapeCasts S1x16x2048
  slices_S1x16x2048x205_S1x16x2048x1_0_0_0_204 : S1x16x2048x205.Slices ![0, 0, 0, 204] S1x16x2048x1
  bcast_S2048_S1x1x2048_2 : S2048.BroadcastsInDim S1x1x2048 (![2] : Fin 1 → Fin S1x1x2048.rank)
  bcast_S_S1x1x2048 : S_.BroadcastsInDim S1x1x2048 (![] : Fin 0 → Fin S1x1x2048.rank)
  bcast_S_S1x16x2048 : S_.BroadcastsInDim S1x16x2048 (![] : Fin 0 → Fin S1x16x2048.rank)
  bcast_S1x1x2048_S1x16x2048_0_1_2 : S1x1x2048.BroadcastsInDim S1x16x2048 (![0, 1, 2] : Fin 3 → Fin S1x16x2048.rank)
  reducesTo_S1x16x2048_S1x2048_d1 : S1x16x2048.ReducesTo [1] S1x2048
  bcast_S1x2048_S1x2048x1_0_1 : S1x2048.BroadcastsInDim S1x2048x1 (![0, 1] : Fin 2 → Fin S1x2048x1.rank)
  dot_S1x2048x1024_S1024x3072_S1x2048x3072_2_0_01_1_n_n_wf : DotDims.WF S1x2048x1024 S1024x3072 S1x2048x3072 [2] [0] [0, 1] [1] [] []

variable [Facts]

def dot_S1x2048x1024_S1024x3072_S1x2048x3072_2_0_01_1_n_n : DotDims S1x2048x1024 S1024x3072 S1x2048x3072 where
  lhsContracting := [2]
  rhsContracting := [0]
  lhsNonContracting := [0, 1]
  rhsNonContracting := [1]
  lhsBatch := []
  rhsBatch := []
  wf := dot_S1x2048x1024_S1024x3072_S1x2048x3072_2_0_01_1_n_n_wf
def fn_pad {F : FTy → Type} [FloatOps F] (arg0 : FVec F S1x2048x1024 .f32) (arg1 : IVec S_ 32) : FVec F S1x2051x1024 .f32 :=
  let v0 : FVec F S_ .f32 := sitofp .f32 arg1
  let v1 : FVec F S1x2051x1024 .f32 := (fun x v => pad S1x2051x1024 ![0, 3, 0] ![0, 0, 0] ![0, 0, 0] x v pads_S1x2048x1024_S1x2051x1024_000_300_000 h_S_) arg0 v0
  v1

def fn_tril {F : FTy → Type} [FloatOps F] (arg0 : IVec S2048x2048 1) : IVec S2048x2048 1 :=
  let v0 : IVec S2048x2048 32 := iotaInDim S2048x2048 32 0
  let c : IVec S_ 32 := constantI S_ 32 0#32
  let v1 : IVec S2048x2048 32 := broadcastInDim S2048x2048 ![] bcast_S_S2048x2048 c
  let v2 : IVec S2048x2048 32 := addi v0 v1
  let v3 : IVec S2048x2048 32 := iotaInDim S2048x2048 32 1
  let v4 : IVec S2048x2048 1 := cmpi .sge v2 v3
  let c_0 : IVec S_ 1 := constantI S_ 1 0#1
  let v5 : IVec S2048x2048 1 := broadcastInDim S2048x2048 ![] bcast_S_S2048x2048 c_0
  let v6 : IVec S2048x2048 1 := select v4 arg0 v5
  v6

def fn_where {F : FTy → Type} [FloatOps F] (arg0 : IVec S1x1x2048x2048 1) (arg1 : FVec F S1x16x2048x2048 .f32) (arg2 : FVec F S_ .f32) : FVec F S1x16x2048x2048 .f32 :=
  let v0 : FVec F S_ .f32 := id arg2
  let v1 : IVec S1x16x2048x2048 1 := broadcastInDim S1x16x2048x2048 ![0, 1, 2, 3] bcast_S1x1x2048x2048_S1x16x2048x2048_0_1_2_3 arg0
  let v2 : FVec F S1x16x2048x2048 .f32 := broadcastInDim S1x16x2048x2048 ![] bcast_S_S1x16x2048x2048 v0
  let v3 : FVec F S1x16x2048x2048 .f32 := select v1 arg1 v2
  v3

def fn_part8 {F : FTy → Type} [FloatOps F] (main_v151 : FVec F S1x16x2048 .f32) (main_v157 : FVec F S1x16x2048 .f32) (main_v161 : IVec S1x1x2048 1) (main_v162 : FVec F S1x16x2048 .f32) (main_cst_24 : FVec F S_ .f32) : IVec S1x2048x1024 1 :=
  let main_v163 : FVec F S1x16x2048 .f32 := broadcastInDim S1x16x2048 ![] bcast_S_S1x16x2048 main_cst_24
  let main_v164 : FVec F S1x16x2048 .f32 := mulf main_v162 main_v163
  let main_v165 : IVec S1x16x2048 1 := cmpf .ogt main_v157 main_v164
  let main_v166 : IVec S1x16x2048 1 := broadcastInDim S1x16x2048 ![0, 1, 2] bcast_S1x1x2048_S1x16x2048_0_1_2 main_v161
  let main_v167 : IVec S1x16x2048 1 := ori main_v166 main_v165
  let main_cst_25 : FVec F S_ .f32 := constant S_ .f32 0xFF7FFFFF#32
  let main_v168 : FVec F S1x16x2048 .f32 := broadcastInDim S1x16x2048 ![] bcast_S_S1x16x2048 main_cst_25
  let main_v169 : IVec S1x16x2048 1 := cmpf .ogt main_v151 main_v168
  let main_v170 : IVec S1x16x2048 1 := andi main_v169 main_v167
  let main_c_26 : IVec S_ 1 := constantI S_ 1 1#1
  let main_v171 : IVec S1x2048 1 := (fun x v => Host.reduce IntOp.andi x v reducesTo_S1x16x2048_S1x2048_d1 h_S_) main_v170 main_c_26
  let main_v172 : IVec S1x2048x1 1 := broadcastInDim S1x2048x1 ![0, 1] bcast_S1x2048_S1x2048x1_0_1 main_v171
  let main_v173 : IVec S1x2048x1024 1 := broadcastInDim S1x2048x1024 ![0, 1, 2] bcast_S1x2048x1_S1x2048x1024_0_1_2 main_v172
  main_v173

def fn_part7 {F : FTy → Type} [FloatOps F] (main_v145 : FVec F S1x16x2048x2048 .f32) (main_v146 : IVec S2048x2048 1) : IVec S1x2048x1024 1 :=
  let main_v147 : IVec S2048x2048 1 := fn_tril (F := F) main_v146
  let main_v148 : IVec S1x1x2048x2048 1 := broadcastInDim S1x1x2048x2048 ![2, 3] bcast_S2048x2048_S1x1x2048x2048_2_3 main_v147
  let main_cst_19 : FVec F S_ .f32 := constant S_ .f32 0xFF800000#32
  let main_v149 : FVec F S1x16x2048x2048 .f32 := fn_where (F := F) main_v148 main_v145 main_cst_19
  let main_cst_20 : FVec F S_ .f32 := constant S_ .f32 0x7F800000#32
  let main_v150 : FVec F S1x16x2048x2048 .f32 := fn_where (F := F) main_v148 main_v145 main_cst_20
  let main_cst_21 : FVec F S_ .f32 := constant S_ .f32 0x7F800000#32
  let main_v151 : FVec F S1x16x2048 .f32 := (fun x v => Host.reduce FloatOps.minimumf x v reducesTo_S1x16x2048x2048_S1x16x2048_d3 h_S_) main_v150 main_cst_21
  let main_cst_22 : FVec F S_ .f32 := constant S_ .f32 0xFF800000#32
  let main_v152 : FVec F S1x16x2048 .f32 := (fun x v => Host.reduce FloatOps.maximumf x v reducesTo_S1x16x2048x2048_S1x16x2048_d3 h_S_) main_v149 main_cst_22
  let main_values : FVec F S1x16x2048x205 .f32 := (fun x => (Host.topK S1x16x2048x205 3 (FloatOps.cmpfTotal .gt) x sliceFits_S1x16x2048x2048_S1x16x2048x205).1) main_v149
  let main_indices : IVec S1x16x2048x205 32 := (fun x => (Host.topK S1x16x2048x205 3 (FloatOps.cmpfTotal .gt) x sliceFits_S1x16x2048x2048_S1x16x2048x205).2) main_v149
  let main_v153 : FVec F S1x16x2048x1 .f32 := (extractStridedSlice S1x16x2048x1 ![0, 0, 0, 203] · slices_S1x16x2048x205_S1x16x2048x1_0_0_0_203) main_values
  let main_v154 : FVec F S1x16x2048 .f32 := shapeCast S1x16x2048 main_v153 shapeCasts_S1x16x2048x1_S1x16x2048
  let main_v155 : FVec F S1x16x2048x1 .f32 := (extractStridedSlice S1x16x2048x1 ![0, 0, 0, 204] · slices_S1x16x2048x205_S1x16x2048x1_0_0_0_204) main_values
  let main_v156 : FVec F S1x16x2048 .f32 := shapeCast S1x16x2048 main_v155 shapeCasts_S1x16x2048x1_S1x16x2048
  let main_v157 : FVec F S1x16x2048 .f32 := subf main_v154 main_v156
  let main_v158 : IVec S2048 32 := iotaInDim S2048 32 0
  let main_v159 : IVec S1x1x2048 32 := broadcastInDim S1x1x2048 ![2] bcast_S2048_S1x1x2048_2 main_v158
  let main_c_23 : IVec S_ 32 := constantI S_ 32 204#32
  let main_v160 : IVec S1x1x2048 32 := broadcastInDim S1x1x2048 ![] bcast_S_S1x1x2048 main_c_23
  let main_v161 : IVec S1x1x2048 1 := cmpi .slt main_v159 main_v160
  let main_v162 : FVec F S1x16x2048 .f32 := subf main_v152 main_v151
  let main_cst_24 : FVec F S_ .f32 := constant S_ .f32 0x33800000#32
  fn_part8 (F := F) main_v151 main_v157 main_v161 main_v162 main_cst_24

def fn_part6 {F : FTy → Type} [FloatOps F] (main_v103 : FVec F S1x1x2048x32 .f32) (main_v105 : FVec F S1x1x2048x32 .f32) (main_v121 : FVec F S1x16x2048x64 .f32) (main_v122 : FVec F S1x16x2048x32 .f32) (main_v123 : FVec F S1x16x2048x32 .f32) (main_v125 : FVec F S1x16x2048x32 .f32) : IVec S1x2048x1024 1 :=
  let main_v126 : FVec F S1x16x2048x32 .f32 := broadcastInDim S1x16x2048x32 ![0, 1, 2, 3] bcast_S1x1x2048x32_S1x16x2048x32_0_1_2_3 main_v105
  let main_v127 : FVec F S1x16x2048x32 .f32 := mulf main_v123 main_v126
  let main_v128 : FVec F S1x16x2048x32 .f32 := subf main_v125 main_v127
  let main_v129 : FVec F S1x16x2048x32 .f32 := broadcastInDim S1x16x2048x32 ![0, 1, 2, 3] bcast_S1x1x2048x32_S1x16x2048x32_0_1_2_3 main_v105
  let main_v130 : FVec F S1x16x2048x32 .f32 := mulf main_v122 main_v129
  let main_v131 : FVec F S1x16x2048x32 .f32 := broadcastInDim S1x16x2048x32 ![0, 1, 2, 3] bcast_S1x1x2048x32_S1x16x2048x32_0_1_2_3 main_v103
  let main_v132 : FVec F S1x16x2048x32 .f32 := mulf main_v123 main_v131
  let main_v133 : FVec F S1x16x2048x32 .f32 := addf main_v130 main_v132
  let main_v134 : FVec F S1x16x2048x32x1 .f32 := broadcastInDim S1x16x2048x32x1 ![0, 1, 2, 3] bcast_S1x16x2048x32_S1x16x2048x32x1_0_1_2_3 main_v128
  let main_v135 : FVec F S1x16x2048x32x1 .f32 := broadcastInDim S1x16x2048x32x1 ![0, 1, 2, 3] bcast_S1x16x2048x32_S1x16x2048x32x1_0_1_2_3 main_v133
  let main_v136 : FVec F S1x16x2048x32x2 .f32 := (fun a b => concatenate S1x16x2048x32x2 4 [⟨S1x16x2048x32x1, a⟩, ⟨S1x16x2048x32x1, b⟩] concatenates_S1x16x2048x32x1_S1x16x2048x32x1_S1x16x2048x32x2_d4) main_v134 main_v135
  let main_v137 : FVec F S1x16x2048x64 .f32 := shapeCast S1x16x2048x64 main_v136 shapeCasts_S1x16x2048x32x2_S1x16x2048x64
  let main_v138 : FVec F S1x16x2048x1x64 .f32 := broadcastInDim S1x16x2048x1x64 ![0, 1, 2, 4] bcast_S1x16x2048x64_S1x16x2048x1x64_0_1_2_4 main_v121
  let main_v139 : FVec F S1x16x1x2048x64 .f32 := broadcastInDim S1x16x1x2048x64 ![0, 1, 3, 4] bcast_S1x16x2048x64_S1x16x1x2048x64_0_1_3_4 main_v137
  let main_v140 : FVec F S1x16x2048x2048x64 .f32 := broadcastInDim S1x16x2048x2048x64 ![0, 1, 2, 3, 4] bcast_S1x16x2048x1x64_S1x16x2048x2048x64_0_1_2_3_4 main_v138
  let main_v141 : FVec F S1x16x2048x2048x64 .f32 := broadcastInDim S1x16x2048x2048x64 ![0, 1, 2, 3, 4] bcast_S1x16x1x2048x64_S1x16x2048x2048x64_0_1_2_3_4 main_v139
  let main_v142 : FVec F S1x16x2048x2048x64 .f32 := mulf main_v140 main_v141
  let main_cst_16 : FVec F S_ .f32 := constant S_ .f32 0x00000000#32
  let main_v143 : FVec F S1x16x2048x2048 .f32 := (fun x v => Host.reduceAdd x v reducesTo_S1x16x2048x2048x64_S1x16x2048x2048_d4 h_S_) main_v142 main_cst_16
  let main_cst_17 : FVec F S_ .f32 := constant S_ .f32 0x3E000000#32
  let main_v144 : FVec F S1x16x2048x2048 .f32 := broadcastInDim S1x16x2048x2048 ![] bcast_S_S1x16x2048x2048 main_cst_17
  let main_v145 : FVec F S1x16x2048x2048 .f32 := mulf main_v143 main_v144
  let main_c_18 : IVec S_ 1 := constantI S_ 1 1#1
  let main_v146 : IVec S2048x2048 1 := broadcastInDim S2048x2048 ![] bcast_S_S2048x2048 main_c_18
  fn_part7 (F := F) main_v145 main_v146

def fn_part5 {F : FTy → Type} [FloatOps F] (main_v79 : FVec F S1x16x2048x64 .f32) (main_v81 : FVec F S1x16x2048x64 .f32) (main_v101 : FVec F S2048x32 .f32) : IVec S1x2048x1024 1 :=
  let main_v102 : FVec F S2048x32 .f32 := Host.cos main_v101
  let main_v103 : FVec F S1x1x2048x32 .f32 := broadcastInDim S1x1x2048x32 ![2, 3] bcast_S2048x32_S1x1x2048x32_2_3 main_v102
  let main_v104 : FVec F S2048x32 .f32 := Host.sin main_v101
  let main_v105 : FVec F S1x1x2048x32 .f32 := broadcastInDim S1x1x2048x32 ![2, 3] bcast_S2048x32_S1x1x2048x32_2_3 main_v104
  let main_v106 : FVec F S1x16x2048x32 .f32 := (Host.slice S1x16x2048x32 ![0, 0, 0, 0] ![1, 1, 1, 2] · slicesBy_S1x16x2048x64_S1x16x2048x32_0s1_0s1_0s1_0s2) main_v79
  let main_v107 : FVec F S1x16x2048x32 .f32 := (Host.slice S1x16x2048x32 ![0, 0, 0, 1] ![1, 1, 1, 2] · slicesBy_S1x16x2048x64_S1x16x2048x32_0s1_0s1_0s1_1s2) main_v79
  let main_v108 : FVec F S1x16x2048x32 .f32 := broadcastInDim S1x16x2048x32 ![0, 1, 2, 3] bcast_S1x1x2048x32_S1x16x2048x32_0_1_2_3 main_v103
  let main_v109 : FVec F S1x16x2048x32 .f32 := mulf main_v106 main_v108
  let main_v110 : FVec F S1x16x2048x32 .f32 := broadcastInDim S1x16x2048x32 ![0, 1, 2, 3] bcast_S1x1x2048x32_S1x16x2048x32_0_1_2_3 main_v105
  let main_v111 : FVec F S1x16x2048x32 .f32 := mulf main_v107 main_v110
  let main_v112 : FVec F S1x16x2048x32 .f32 := subf main_v109 main_v111
  let main_v113 : FVec F S1x16x2048x32 .f32 := broadcastInDim S1x16x2048x32 ![0, 1, 2, 3] bcast_S1x1x2048x32_S1x16x2048x32_0_1_2_3 main_v105
  let main_v114 : FVec F S1x16x2048x32 .f32 := mulf main_v106 main_v113
  let main_v115 : FVec F S1x16x2048x32 .f32 := broadcastInDim S1x16x2048x32 ![0, 1, 2, 3] bcast_S1x1x2048x32_S1x16x2048x32_0_1_2_3 main_v103
  let main_v116 : FVec F S1x16x2048x32 .f32 := mulf main_v107 main_v115
  let main_v117 : FVec F S1x16x2048x32 .f32 := addf main_v114 main_v116
  let main_v118 : FVec F S1x16x2048x32x1 .f32 := broadcastInDim S1x16x2048x32x1 ![0, 1, 2, 3] bcast_S1x16x2048x32_S1x16x2048x32x1_0_1_2_3 main_v112
  let main_v119 : FVec F S1x16x2048x32x1 .f32 := broadcastInDim S1x16x2048x32x1 ![0, 1, 2, 3] bcast_S1x16x2048x32_S1x16x2048x32x1_0_1_2_3 main_v117
  let main_v120 : FVec F S1x16x2048x32x2 .f32 := (fun a b => concatenate S1x16x2048x32x2 4 [⟨S1x16x2048x32x1, a⟩, ⟨S1x16x2048x32x1, b⟩] concatenates_S1x16x2048x32x1_S1x16x2048x32x1_S1x16x2048x32x2_d4) main_v118 main_v119
  let main_v121 : FVec F S1x16x2048x64 .f32 := shapeCast S1x16x2048x64 main_v120 shapeCasts_S1x16x2048x32x2_S1x16x2048x64
  let main_v122 : FVec F S1x16x2048x32 .f32 := (Host.slice S1x16x2048x32 ![0, 0, 0, 0] ![1, 1, 1, 2] · slicesBy_S1x16x2048x64_S1x16x2048x32_0s1_0s1_0s1_0s2) main_v81
  let main_v123 : FVec F S1x16x2048x32 .f32 := (Host.slice S1x16x2048x32 ![0, 0, 0, 1] ![1, 1, 1, 2] · slicesBy_S1x16x2048x64_S1x16x2048x32_0s1_0s1_0s1_1s2) main_v81
  let main_v124 : FVec F S1x16x2048x32 .f32 := broadcastInDim S1x16x2048x32 ![0, 1, 2, 3] bcast_S1x1x2048x32_S1x16x2048x32_0_1_2_3 main_v103
  let main_v125 : FVec F S1x16x2048x32 .f32 := mulf main_v122 main_v124
  fn_part6 (F := F) main_v103 main_v105 main_v121 main_v122 main_v123 main_v125

def fn_part4 {F : FTy → Type} [FloatOps F] (main_arg1 : IVec S2048 32) (main_v79 : FVec F S1x16x2048x64 .f32) (main_v81 : FVec F S1x16x2048x64 .f32) (main_v82 : FVec F S1x2048x16x64 .f32) : IVec S1x2048x1024 1 :=
  let main_v83 : FVec F S1x16x2048x64 .f32 := (transpose S1x16x2048x64 [0, 2, 1, 3] · transposes_S1x2048x16x64_S1x16x2048x64_0_2_1_3) main_v82
  let main_v84 : IVec S32 32 := iotaInDim S32 32 0
  let main_c_11 : IVec S_ 32 := constantI S_ 32 2#32
  let main_v85 : IVec S32 32 := broadcastInDim S32 ![] bcast_S_S32 main_c_11
  let main_v86 : IVec S32 32 := muli main_v85 main_v84
  let main_c_12 : IVec S_ 32 := constantI S_ 32 0#32
  let main_v87 : IVec S32 32 := broadcastInDim S32 ![] bcast_S_S32 main_c_12
  let main_v88 : IVec S32 32 := addi main_v87 main_v86
  let main_v89 : FVec F S32 .f32 := sitofp .f32 main_v88
  let main_cst_13 : FVec F S_ .f32 := constant S_ .f32 0x42800000#32
  let main_v90 : FVec F S32 .f32 := broadcastInDim S32 ![] bcast_S_S32 main_cst_13
  let main_v91 : FVec F S32 .f32 := Host.divf main_v89 main_v90
  let main_cst_14 : FVec F S_ .f32 := constant S_ .f32 0x461C4000#32
  let main_v92 : FVec F S32 .f32 := broadcastInDim S32 ![] bcast_S_S32 main_cst_14
  let main_v93 : FVec F S32 .f32 := Host.powf main_v92 main_v91
  let main_cst_15 : FVec F S_ .f32 := constant S_ .f32 0x3F800000#32
  let main_v94 : FVec F S32 .f32 := broadcastInDim S32 ![] bcast_S_S32 main_cst_15
  let main_v95 : FVec F S32 .f32 := Host.divf main_v94 main_v93
  let main_v96 : FVec F S2048 .f32 := sitofp .f32 main_arg1
  let main_v97 : FVec F S2048x1 .f32 := broadcastInDim S2048x1 ![0] bcast_S2048_S2048x1_0 main_v96
  let main_v98 : FVec F S1x32 .f32 := broadcastInDim S1x32 ![1] bcast_S32_S1x32_1 main_v95
  let main_v99 : FVec F S2048x32 .f32 := broadcastInDim S2048x32 ![0, 1] bcast_S2048x1_S2048x32_0_1 main_v97
  let main_v100 : FVec F S2048x32 .f32 := broadcastInDim S2048x32 ![0, 1] bcast_S1x32_S2048x32_0_1 main_v98
  let main_v101 : FVec F S2048x32 .f32 := mulf main_v99 main_v100
  fn_part5 (F := F) main_v79 main_v81 main_v101

def fn_part3 {F : FTy → Type} [FloatOps F] (main_arg1 : IVec S2048 32) (main_arg7 : FVec F S4 .f32) (main_v35 : FVec F S1x2048x1024 .f32) (main_v49 : FVec F S1x2048x1024 .f32) (main_v59 : FVec F S1x2048x1024x4 .f32) (main_v61 : FVec F S1x2048x1024x4 .f32) : IVec S1x2048x1024 1 :=
  let main_v62 : FVec F S1x2048x1024x4 .f32 := mulf main_v59 main_v61
  let main_cst_8 : FVec F S_ .f32 := constant S_ .f32 0x00000000#32
  let main_v63 : FVec F S1x2048x1024 .f32 := (fun x v => Host.reduceAdd x v reducesTo_S1x2048x1024x4_S1x2048x1024_d3 h_S_) main_v62 main_cst_8
  let main_c_9 : IVec S_ 32 := constantI S_ 32 0#32
  let main_v64 : FVec F S1x2051x1024 .f32 := fn_pad (F := F) main_v35 main_c_9
  let main_v65 : FVec F S1x2048x1024 .f32 := (extractStridedSlice S1x2048x1024 ![0, 0, 0] · slices_S1x2051x1024_S1x2048x1024_0_0_0) main_v64
  let main_v66 : FVec F S1x2048x1024 .f32 := (extractStridedSlice S1x2048x1024 ![0, 1, 0] · slices_S1x2051x1024_S1x2048x1024_0_1_0) main_v64
  let main_v67 : FVec F S1x2048x1024 .f32 := (extractStridedSlice S1x2048x1024 ![0, 2, 0] · slices_S1x2051x1024_S1x2048x1024_0_2_0) main_v64
  let main_v68 : FVec F S1x2048x1024 .f32 := (extractStridedSlice S1x2048x1024 ![0, 3, 0] · slices_S1x2051x1024_S1x2048x1024_0_3_0) main_v64
  let main_v69 : FVec F S1x2048x1024x1 .f32 := broadcastInDim S1x2048x1024x1 ![0, 1, 2] bcast_S1x2048x1024_S1x2048x1024x1_0_1_2 main_v65
  let main_v70 : FVec F S1x2048x1024x1 .f32 := broadcastInDim S1x2048x1024x1 ![0, 1, 2] bcast_S1x2048x1024_S1x2048x1024x1_0_1_2 main_v66
  let main_v71 : FVec F S1x2048x1024x1 .f32 := broadcastInDim S1x2048x1024x1 ![0, 1, 2] bcast_S1x2048x1024_S1x2048x1024x1_0_1_2 main_v67
  let main_v72 : FVec F S1x2048x1024x1 .f32 := broadcastInDim S1x2048x1024x1 ![0, 1, 2] bcast_S1x2048x1024_S1x2048x1024x1_0_1_2 main_v68
  let main_v73 : FVec F S1x2048x1024x4 .f32 := concatenate S1x2048x1024x4 3 [⟨S1x2048x1024x1, main_v69⟩, ⟨S1x2048x1024x1, main_v70⟩, ⟨S1x2048x1024x1, main_v71⟩, ⟨S1x2048x1024x1, main_v72⟩] concatenates_S1x2048x1024x1_S1x2048x1024x1_S1x2048x1024x1_S1x2048x1024x1_S1x2048x1024x4_d3
  let main_v74 : FVec F S1x1x1x4 .f32 := shapeCast S1x1x1x4 main_arg7 shapeCasts_S4_S1x1x1x4
  let main_v75 : FVec F S1x2048x1024x4 .f32 := broadcastInDim S1x2048x1024x4 ![0, 1, 2, 3] bcast_S1x1x1x4_S1x2048x1024x4_0_1_2_3 main_v74
  let main_v76 : FVec F S1x2048x1024x4 .f32 := mulf main_v73 main_v75
  let main_cst_10 : FVec F S_ .f32 := constant S_ .f32 0x00000000#32
  let main_v77 : FVec F S1x2048x1024 .f32 := (fun x v => Host.reduceAdd x v reducesTo_S1x2048x1024x4_S1x2048x1024_d3 h_S_) main_v76 main_cst_10
  let main_v78 : FVec F S1x2048x16x64 .f32 := shapeCast S1x2048x16x64 main_v49 shapeCasts_S1x2048x1024_S1x2048x16x64
  let main_v79 : FVec F S1x16x2048x64 .f32 := (transpose S1x16x2048x64 [0, 2, 1, 3] · transposes_S1x2048x16x64_S1x16x2048x64_0_2_1_3) main_v78
  let main_v80 : FVec F S1x2048x16x64 .f32 := shapeCast S1x2048x16x64 main_v63 shapeCasts_S1x2048x1024_S1x2048x16x64
  let main_v81 : FVec F S1x16x2048x64 .f32 := (transpose S1x16x2048x64 [0, 2, 1, 3] · transposes_S1x2048x16x64_S1x16x2048x64_0_2_1_3) main_v80
  let main_v82 : FVec F S1x2048x16x64 .f32 := shapeCast S1x2048x16x64 main_v77 shapeCasts_S1x2048x1024_S1x2048x16x64
  fn_part4 (F := F) main_arg1 main_v79 main_v81 main_v82

def fn_part2 {F : FTy → Type} [FloatOps F] (main_arg1 : IVec S2048 32) (main_arg5 : FVec F S4 .f32) (main_arg6 : FVec F S4 .f32) (main_arg7 : FVec F S4 .f32) (main_v34 : FVec F S1x2048x1024 .f32) (main_v35 : FVec F S1x2048x1024 .f32) (main_v36 : FVec F S1x2051x1024 .f32) (main_v37 : FVec F S1x2048x1024 .f32) (main_v38 : FVec F S1x2048x1024 .f32) (main_v39 : FVec F S1x2048x1024 .f32) : IVec S1x2048x1024 1 :=
  let main_v40 : FVec F S1x2048x1024 .f32 := (extractStridedSlice S1x2048x1024 ![0, 3, 0] · slices_S1x2051x1024_S1x2048x1024_0_3_0) main_v36
  let main_v41 : FVec F S1x2048x1024x1 .f32 := broadcastInDim S1x2048x1024x1 ![0, 1, 2] bcast_S1x2048x1024_S1x2048x1024x1_0_1_2 main_v37
  let main_v42 : FVec F S1x2048x1024x1 .f32 := broadcastInDim S1x2048x1024x1 ![0, 1, 2] bcast_S1x2048x1024_S1x2048x1024x1_0_1_2 main_v38
  let main_v43 : FVec F S1x2048x1024x1 .f32 := broadcastInDim S1x2048x1024x1 ![0, 1, 2] bcast_S1x2048x1024_S1x2048x1024x1_0_1_2 main_v39
  let main_v44 : FVec F S1x2048x1024x1 .f32 := broadcastInDim S1x2048x1024x1 ![0, 1, 2] bcast_S1x2048x1024_S1x2048x1024x1_0_1_2 main_v40
  let main_v45 : FVec F S1x2048x1024x4 .f32 := concatenate S1x2048x1024x4 3 [⟨S1x2048x1024x1, main_v41⟩, ⟨S1x2048x1024x1, main_v42⟩, ⟨S1x2048x1024x1, main_v43⟩, ⟨S1x2048x1024x1, main_v44⟩] concatenates_S1x2048x1024x1_S1x2048x1024x1_S1x2048x1024x1_S1x2048x1024x1_S1x2048x1024x4_d3
  let main_v46 : FVec F S1x1x1x4 .f32 := shapeCast S1x1x1x4 main_arg5 shapeCasts_S4_S1x1x1x4
  let main_v47 : FVec F S1x2048x1024x4 .f32 := broadcastInDim S1x2048x1024x4 ![0, 1, 2, 3] bcast_S1x1x1x4_S1x2048x1024x4_0_1_2_3 main_v46
  let main_v48 : FVec F S1x2048x1024x4 .f32 := mulf main_v45 main_v47
  let main_cst_6 : FVec F S_ .f32 := constant S_ .f32 0x00000000#32
  let main_v49 : FVec F S1x2048x1024 .f32 := (fun x v => Host.reduceAdd x v reducesTo_S1x2048x1024x4_S1x2048x1024_d3 h_S_) main_v48 main_cst_6
  let main_c_7 : IVec S_ 32 := constantI S_ 32 0#32
  let main_v50 : FVec F S1x2051x1024 .f32 := fn_pad (F := F) main_v34 main_c_7
  let main_v51 : FVec F S1x2048x1024 .f32 := (extractStridedSlice S1x2048x1024 ![0, 0, 0] · slices_S1x2051x1024_S1x2048x1024_0_0_0) main_v50
  let main_v52 : FVec F S1x2048x1024 .f32 := (extractStridedSlice S1x2048x1024 ![0, 1, 0] · slices_S1x2051x1024_S1x2048x1024_0_1_0) main_v50
  let main_v53 : FVec F S1x2048x1024 .f32 := (extractStridedSlice S1x2048x1024 ![0, 2, 0] · slices_S1x2051x1024_S1x2048x1024_0_2_0) main_v50
  let main_v54 : FVec F S1x2048x1024 .f32 := (extractStridedSlice S1x2048x1024 ![0, 3, 0] · slices_S1x2051x1024_S1x2048x1024_0_3_0) main_v50
  let main_v55 : FVec F S1x2048x1024x1 .f32 := broadcastInDim S1x2048x1024x1 ![0, 1, 2] bcast_S1x2048x1024_S1x2048x1024x1_0_1_2 main_v51
  let main_v56 : FVec F S1x2048x1024x1 .f32 := broadcastInDim S1x2048x1024x1 ![0, 1, 2] bcast_S1x2048x1024_S1x2048x1024x1_0_1_2 main_v52
  let main_v57 : FVec F S1x2048x1024x1 .f32 := broadcastInDim S1x2048x1024x1 ![0, 1, 2] bcast_S1x2048x1024_S1x2048x1024x1_0_1_2 main_v53
  let main_v58 : FVec F S1x2048x1024x1 .f32 := broadcastInDim S1x2048x1024x1 ![0, 1, 2] bcast_S1x2048x1024_S1x2048x1024x1_0_1_2 main_v54
  let main_v59 : FVec F S1x2048x1024x4 .f32 := concatenate S1x2048x1024x4 3 [⟨S1x2048x1024x1, main_v55⟩, ⟨S1x2048x1024x1, main_v56⟩, ⟨S1x2048x1024x1, main_v57⟩, ⟨S1x2048x1024x1, main_v58⟩] concatenates_S1x2048x1024x1_S1x2048x1024x1_S1x2048x1024x1_S1x2048x1024x1_S1x2048x1024x4_d3
  let main_v60 : FVec F S1x1x1x4 .f32 := shapeCast S1x1x1x4 main_arg6 shapeCasts_S4_S1x1x1x4
  let main_v61 : FVec F S1x2048x1024x4 .f32 := broadcastInDim S1x2048x1024x4 ![0, 1, 2, 3] bcast_S1x1x1x4_S1x2048x1024x4_0_1_2_3 main_v60
  fn_part3 (F := F) main_arg1 main_arg7 main_v35 main_v49 main_v59 main_v61

def fn_part1 {F : FTy → Type} [FloatOps F] (main_arg0 : FVec F S1x2048x1024 .f32) (main_arg1 : IVec S2048 32) (main_arg2 : FVec F S3072x1024 .f32) (main_arg5 : FVec F S4 .f32) (main_arg6 : FVec F S4 .f32) (main_arg7 : FVec F S4 .f32) (main_v12 : FVec F S1x2048x1024 .f32) (main_v19 : FVec F S1x2048x1 .f32) : IVec S1x2048x1024 1 :=
  let main_v20 : FVec F S1x2048x1024 .f32 := Host.cos main_v12
  let main_v21 : FVec F S1x2048x1 .f32 := Host.cos main_v19
  let main_cst_3 : FVec F S_ .f32 := constant S_ .f32 0x3E99999A#32
  let main_v22 : FVec F S1x2048x1024 .f32 := broadcastInDim S1x2048x1024 ![] bcast_S_S1x2048x1024 main_cst_3
  let main_v23 : FVec F S1x2048x1024 .f32 := mulf main_v22 main_v20
  let main_cst_4 : FVec F S_ .f32 := constant S_ .f32 0x3F000000#32
  let main_v24 : FVec F S1x2048x1024 .f32 := broadcastInDim S1x2048x1024 ![] bcast_S_S1x2048x1024 main_cst_4
  let main_v25 : FVec F S1x2048x1024 .f32 := addf main_v24 main_v23
  let main_cst_5 : FVec F S_ .f32 := constant S_ .f32 0x3E4CCCCD#32
  let main_v26 : FVec F S1x2048x1 .f32 := broadcastInDim S1x2048x1 ![] bcast_S_S1x2048x1 main_cst_5
  let main_v27 : FVec F S1x2048x1 .f32 := mulf main_v26 main_v21
  let main_v28 : FVec F S1x2048x1024 .f32 := broadcastInDim S1x2048x1024 ![0, 1, 2] bcast_S1x2048x1_S1x2048x1024_0_1_2 main_v27
  let main_v29 : FVec F S1x2048x1024 .f32 := addf main_v25 main_v28
  let main_v30 : FVec F S1x2048x1024 .f32 := mulf main_arg0 main_v29
  let main_v31 : FVec F S1024x3072 .f32 := (transpose S1024x3072 [1, 0] · transposes_S3072x1024_S1024x3072_1_0) main_arg2
  let main_v32 : FVec F S1x2048x3072 .f32 := (fun l r => Host.dotGeneral dot_S1x2048x1024_S1024x3072_S1x2048x3072_2_0_01_1_n_n none l r) main_v30 main_v31
  let main_v33 : FVec F S1x2048x1024 .f32 := (extractStridedSlice S1x2048x1024 ![0, 0, 0] · slices_S1x2048x3072_S1x2048x1024_0_0_0) main_v32
  let main_v34 : FVec F S1x2048x1024 .f32 := (extractStridedSlice S1x2048x1024 ![0, 0, 1024] · slices_S1x2048x3072_S1x2048x1024_0_0_1024) main_v32
  let main_v35 : FVec F S1x2048x1024 .f32 := (extractStridedSlice S1x2048x1024 ![0, 0, 2048] · slices_S1x2048x3072_S1x2048x1024_0_0_2048) main_v32
  let main_c : IVec S_ 32 := constantI S_ 32 0#32
  let main_v36 : FVec F S1x2051x1024 .f32 := fn_pad (F := F) main_v33 main_c
  let main_v37 : FVec F S1x2048x1024 .f32 := (extractStridedSlice S1x2048x1024 ![0, 0, 0] · slices_S1x2051x1024_S1x2048x1024_0_0_0) main_v36
  let main_v38 : FVec F S1x2048x1024 .f32 := (extractStridedSlice S1x2048x1024 ![0, 1, 0] · slices_S1x2051x1024_S1x2048x1024_0_1_0) main_v36
  let main_v39 : FVec F S1x2048x1024 .f32 := (extractStridedSlice S1x2048x1024 ![0, 2, 0] · slices_S1x2051x1024_S1x2048x1024_0_2_0) main_v36
  fn_part2 (F := F) main_arg1 main_arg5 main_arg6 main_arg7 main_v34 main_v35 main_v36 main_v37 main_v38 main_v39

def fn {F : FTy → Type} [FloatOps F] (main_arg0 : FVec F S1x2048x1024 .f32) (main_arg1 : IVec S2048 32) (main_arg2 : FVec F S3072x1024 .f32) (main_arg3 : FVec F S1024x1024 .f32) (main_arg4 : FVec F S1024 .f32) (main_arg5 : FVec F S4 .f32) (main_arg6 : FVec F S4 .f32) (main_arg7 : FVec F S4 .f32) (main_arg8 : FVec F S1024 .f32) (main_arg9 : FVec F S1 .f32) (main_arg10 : FVec F S1024 .f32) : IVec S1x2048x1024 1 :=
  let main_v0 : FVec F S2048 .f32 := sitofp .f32 main_arg1
  let main_v1 : FVec F S1x2048x1 .f32 := shapeCast S1x2048x1 main_v0 shapeCasts_S2048_S1x2048x1
  let main_v2 : FVec F S1x1x1024 .f32 := shapeCast S1x1x1024 main_arg8 shapeCasts_S1024_S1x1x1024
  let main_cst : FVec F S_ .f32 := constant S_ .f32 0x40C90FDB#32
  let main_v3 : FVec F S1x1x1024 .f32 := broadcastInDim S1x1x1024 ![] bcast_S_S1x1x1024 main_cst
  let main_v4 : FVec F S1x1x1024 .f32 := mulf main_v3 main_v2
  let main_v5 : FVec F S1x2048x1024 .f32 := broadcastInDim S1x2048x1024 ![0, 1, 2] bcast_S1x1x1024_S1x2048x1024_0_1_2 main_v4
  let main_v6 : FVec F S1x2048x1024 .f32 := broadcastInDim S1x2048x1024 ![0, 1, 2] bcast_S1x2048x1_S1x2048x1024_0_1_2 main_v1
  let main_v7 : FVec F S1x2048x1024 .f32 := mulf main_v5 main_v6
  let main_cst_0 : FVec F S_ .f32 := constant S_ .f32 0x42C80000#32
  let main_v8 : FVec F S1x2048x1024 .f32 := broadcastInDim S1x2048x1024 ![] bcast_S_S1x2048x1024 main_cst_0
  let main_v9 : FVec F S1x2048x1024 .f32 := Host.divf main_v7 main_v8
  let main_v10 : FVec F S1x1x1024 .f32 := shapeCast S1x1x1024 main_arg10 shapeCasts_S1024_S1x1x1024
  let main_v11 : FVec F S1x2048x1024 .f32 := broadcastInDim S1x2048x1024 ![0, 1, 2] bcast_S1x1x1024_S1x2048x1024_0_1_2 main_v10
  let main_v12 : FVec F S1x2048x1024 .f32 := addf main_v9 main_v11
  let main_cst_1 : FVec F S_ .f32 := constant S_ .f32 0x40C90FDB#32
  let main_v13 : FVec F S1 .f32 := broadcastInDim S1 ![] bcast_S_S1 main_cst_1
  let main_v14 : FVec F S1 .f32 := mulf main_v13 main_arg9
  let main_v15 : FVec F S1x1x1 .f32 := broadcastInDim S1x1x1 ![2] bcast_S1_S1x1x1_2 main_v14
  let main_v16 : FVec F S1x2048x1 .f32 := broadcastInDim S1x2048x1 ![0, 1, 2] bcast_S1x1x1_S1x2048x1_0_1_2 main_v15
  let main_v17 : FVec F S1x2048x1 .f32 := mulf main_v16 main_v1
  let main_cst_2 : FVec F S_ .f32 := constant S_ .f32 0x42C80000#32
  let main_v18 : FVec F S1x2048x1 .f32 := broadcastInDim S1x2048x1 ![] bcast_S_S1x2048x1 main_cst_2
  let main_v19 : FVec F S1x2048x1 .f32 := Host.divf main_v17 main_v18
  fn_part1 (F := F) main_arg0 main_arg1 main_arg2 main_arg5 main_arg6 main_arg7 main_v12 main_v19
-- ==== Kernel.lean ====
abbrev S1x2048x1024 : Shape := ⟨3, ![1, 2048, 1024]⟩
abbrev S2048 : Shape := ⟨1, ![2048]⟩
abbrev S3072x1024 : Shape := ⟨2, ![3072, 1024]⟩
abbrev S1024x1024 : Shape := ⟨2, ![1024, 1024]⟩
abbrev S1024 : Shape := ⟨1, ![1024]⟩
abbrev S4 : Shape := ⟨1, ![4]⟩
abbrev S1 : Shape := ⟨1, ![1]⟩
abbrev S2048x1024 : Shape := ⟨2, ![2048, 1024]⟩
abbrev S_ : Shape := ⟨0, ![]⟩
abbrev S2056x1024 : Shape := ⟨2, ![2056, 1024]⟩
abbrev S1x2048x1 : Shape := ⟨3, ![1, 2048, 1]⟩
abbrev S1x1x1024 : Shape := ⟨3, ![1, 1, 1024]⟩
abbrev S1x1x1 : Shape := ⟨3, ![1, 1, 1]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x16x64 : Shape := ⟨4, ![1, 2048, 16, 64]⟩
abbrev S512x1024 : Shape := ⟨2, ![512, 1024]⟩
abbrev S520x1024 : Shape := ⟨2, ![520, 1024]⟩
abbrev S1x1024 : Shape := ⟨2, ![1, 1024]⟩
abbrev S512x1023 : Shape := ⟨2, ![512, 1023]⟩
abbrev S512x1 : Shape := ⟨2, ![512, 1]⟩
abbrev S2048x16x64 : Shape := ⟨3, ![2048, 16, 64]⟩
abbrev S16x2048x64 : Shape := ⟨3, ![16, 2048, 64]⟩
abbrev S1x256x64 : Shape := ⟨3, ![1, 256, 64]⟩
abbrev S1x2048x64 : Shape := ⟨3, ![1, 2048, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩

abbrev nBuf : Space → Nat
  | .hbm => 109
  | .vmem => 29
  | .smem => 3
  | _ => 0

abbrev bufTy : (tb : Table) → Fin (tcTables nBuf tb) → BufTy
  | .hbm, ⟨0, _⟩ => ⟨S1x2048x1024, .f32⟩
  | .hbm, ⟨1, _⟩ => ⟨S2048, .i32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S4, .f32⟩
  | .hbm, ⟨6, _⟩ => ⟨S4, .f32⟩
  | .hbm, ⟨7, _⟩ => ⟨S4, .f32⟩
  | .hbm, ⟨8, _⟩ => ⟨S1024, .f32⟩
  | .hbm, ⟨9, _⟩ => ⟨S1, .f32⟩
  | .hbm, ⟨10, _⟩ => ⟨S1024, .f32⟩
  | .hbm, ⟨11, _⟩ => ⟨S2048x1024, .f32⟩
  | .hbm, ⟨12, _⟩ => ⟨S_, .i32⟩
  | .hbm, ⟨13, _⟩ => ⟨S_, .f32⟩
  | .hbm, ⟨14, _⟩ => ⟨S2056x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S2048, .f32⟩
  | .hbm, ⟨19, _⟩ => ⟨S1x2048x1, .f32⟩
  | .hbm, ⟨20, _⟩ => ⟨S1x1x1024, .f32⟩
  | .hbm, ⟨21, _⟩ => ⟨S_, .f32⟩
  | .hbm, ⟨22, _⟩ => ⟨S1x1x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S_, .f32⟩
  | .hbm, ⟨28, _⟩ => ⟨S1x2048x1024, .f32⟩
  | .hbm, ⟨29, _⟩ => ⟨S1x2048x1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1x1, .f32⟩
  | .hbm, ⟨37, _⟩ => ⟨S1x2048x1, .f32⟩
  | .hbm, ⟨38, _⟩ => ⟨S1x2048x1, .f32⟩
  | .hbm, ⟨39, _⟩ => ⟨S_, .f32⟩
  | .hbm, ⟨40, _⟩ => ⟨S1x2048x1, .f32⟩
  | .hbm, ⟨41, _⟩ => ⟨S1x2048x1, .f32⟩
  | .hbm, ⟨42, _⟩ => ⟨S1x2048x1024, .f32⟩
  | .hbm, ⟨43, _⟩ => ⟨S_, .f32⟩
  | .hbm, ⟨44, _⟩ => ⟨S1x2048x1024, .f32⟩
  | .hbm, ⟨45, _⟩ => ⟨S1x2048x1024, .f32⟩
  | .hbm, ⟨46, _⟩ => ⟨S_, .f32⟩
  | .hbm, ⟨47, _⟩ => ⟨S1x2048x1024, .f32⟩
  | .hbm, ⟨48, _⟩ => ⟨S1x2048x1024, .f32⟩
  | .hbm, ⟨49, _⟩ => ⟨S1x2048x1, .f32⟩
  | .hbm, ⟨50, _⟩ => ⟨S_, .f32⟩
  | .hbm, ⟨51, _⟩ => ⟨S1x2048x1, .f32⟩
  | .hbm, ⟨52, _⟩ => ⟨S1x2048x1, .f32⟩
  | .hbm, ⟨53, _⟩ => ⟨S1x2048x1024, .f32⟩
  | .hbm, ⟨54, _⟩ => ⟨S1x2048x1024, .f32⟩
  | .hbm, ⟨55, _⟩ => ⟨S2048x1024, .f32⟩
  | .hbm, ⟨56, _⟩ => ⟨S_, .i32⟩
  | .hbm, ⟨57, _⟩ => ⟨S_, .f32⟩
  | .hbm, ⟨58, _⟩ => ⟨S2056x1024, .f32⟩
  | .hbm, ⟨59, _⟩ => ⟨S32, .i32⟩
  | .hbm, ⟨60, _⟩ => ⟨S_, .i32⟩
  | .hbm, ⟨61, _⟩ => ⟨S32, .i32⟩
  | .hbm, ⟨62, _⟩ => ⟨S32, .i32⟩
  | .hbm, ⟨63, _⟩ => ⟨S_, .i32⟩
  | .hbm, ⟨64, _⟩ => ⟨S32, .i32⟩
  | .hbm, ⟨65, _⟩ => ⟨S32, .i32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S2048, .f32⟩
  | .hbm, ⟨77, _⟩ => ⟨S2048x1, .f32⟩
  | .hbm, ⟨78, _⟩ => ⟨S1x32, .f32⟩
  | .hbm, ⟨79, _⟩ => ⟨S2048x32, .f32⟩
  | .hbm, ⟨80, _⟩ => ⟨S2048x32, .f32⟩
  | .hbm, ⟨81, _⟩ => ⟨S2048x32, .f32⟩
  | .hbm, ⟨82, _⟩ => ⟨S2048x32, .f32⟩
  | .hbm, ⟨83, _⟩ => ⟨S2048x32x2, .f32⟩
  | .hbm, ⟨84, _⟩ => ⟨S2048x64, .f32⟩
  | .hbm, ⟨85, _⟩ => ⟨S1x2048x1x64, .f32⟩
  | .hbm, ⟨86, _⟩ => ⟨S1x2048x16x64, .f32⟩
  | .hbm, ⟨87, _⟩ => ⟨S2048x1024, .f32⟩
  | .hbm, ⟨88, _⟩ => ⟨S2048x32, .f32⟩
  | .hbm, ⟨89, _⟩ => ⟨S2048x32x2, .f32⟩
  | .hbm, ⟨90, _⟩ => ⟨S2048x64, .f32⟩
  | .hbm, ⟨91, _⟩ => ⟨S1x2048x1x64, .f32⟩
  | .hbm, ⟨92, _⟩ => ⟨S1x2048x16x64, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x16x64, .f32⟩
  | .hbm, ⟨98, _⟩ => ⟨S16x2048x64, .f32⟩
  | .hbm, ⟨99, _⟩ => ⟨S2048x16x64, .f32⟩
  | .hbm, ⟨100, _⟩ => ⟨S16x2048x64, .f32⟩
  | .hbm, ⟨101, _⟩ => ⟨S2048x16x64, .f32⟩
  | .hbm, ⟨102, _⟩ => ⟨S16x2048x64, .f32⟩
  | .hbm, ⟨103, _⟩ => ⟨S16x2048x64, .f32⟩
  | .hbm, ⟨104, _⟩ => ⟨S2048x16x64, .f32⟩
  | .hbm, ⟨105, _⟩ => ⟨S2048x1024, .f32⟩
  | .hbm, ⟨106, _⟩ => ⟨S1x1024, .f32⟩
  | .hbm, ⟨107, _⟩ => ⟨S2048x1024, .f32⟩
  | .hbm, ⟨108, _⟩ => ⟨S1x2048x1024, .f32⟩
  | .local _ .vmem, ⟨0, _⟩ => ⟨S2056x1024, .f32⟩
  | .local _ .vmem, ⟨1, _⟩ => ⟨S2056x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x256x64, .f32⟩
  | .local _ .vmem, ⟨16, _⟩ => ⟨S1x256x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S1x256x64, .f32⟩
  | .local _ .vmem, ⟨22, _⟩ => ⟨S1x256x64, .f32⟩
  | .local _ .vmem, ⟨23, _⟩ => ⟨S512x1024, .f32⟩
  | .local _ .vmem, ⟨24, _⟩ => ⟨S512x1024, .f32⟩
  | .local _ .vmem, ⟨25, _⟩ => ⟨S1024x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .smem, ⟨0, _⟩ => ⟨S4, .f32⟩
  | .local _ .smem, ⟨1, _⟩ => ⟨S4, .f32⟩
  | .local _ .smem, ⟨2, _⟩ => ⟨S4, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67_0 : Ref sig .tc := ⟨.hbm, 94, rfl⟩
abbrev main_v67_1 : Ref sig .tc := ⟨.hbm, 95, rfl⟩
abbrev main_v67_2 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2056x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2056x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![16, 8], ![false, false]⟩

@[reducible] def k1_t1_loop : Scf.Loop 32 :=
  let c0_i32 : BitVec 32 := 0#32
  let c24_i32 : BitVec 32 := 24#32
  let v29 : BitVec 32 := Scalar.addi c0_i32 c24_i32
  let c1_i32_11 : BitVec 32 := 1#32
  ⟨c0_i32, v29, c1_i32_11⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S1x2048x1024 : Shape := ⟨3, ![1, 2048, 1024]⟩
abbrev S2048 : Shape := ⟨1, ![2048]⟩
abbrev S3072x1024 : Shape := ⟨2, ![3072, 1024]⟩
abbrev S1024x1024 : Shape := ⟨2, ![1024, 1024]⟩
abbrev S1024 : Shape := ⟨1, ![1024]⟩
abbrev S4 : Shape := ⟨1, ![4]⟩
abbrev S1 : Shape := ⟨1, ![1]⟩
abbrev S1x2048x1 : Shape := ⟨3, ![1, 2048, 1]⟩
abbrev S1x1x1024 : Shape := ⟨3, ![1, 1, 1024]⟩
abbrev S_ : Shape := ⟨0, ![]⟩
abbrev S1x1x1 : Shape := ⟨3, ![1, 1, 1]⟩
abbrev S1024x3072 : Shape := ⟨2, ![1024, 3072]⟩
abbrev S1x2048x3072 : Shape := ⟨3, ![1, 2048, 3072]⟩
abbrev S1x2051x1024 : Shape := ⟨3, ![1, 2051, 1024]⟩
abbrev S1x2048x1024x1 : Shape := ⟨4, ![1, 2048, 1024, 1]⟩
abbrev S1x2048x1024x4 : Shape := ⟨4, ![1, 2048, 1024, 4]⟩
abbrev S1x1x1x4 : Shape := ⟨4, ![1, 1, 1, 4]⟩
abbrev S1x2048x16x64 : Shape := ⟨4, ![1, 2048, 16, 64]⟩
abbrev S1x16x2048x64 : Shape := ⟨4, ![1, 16, 2048, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x1x2048x32 : Shape := ⟨4, ![1, 1, 2048, 32]⟩
abbrev S1x16x2048x32 : Shape := ⟨4, ![1, 16, 2048, 32]⟩
abbrev S1x16x2048x32x1 : Shape := ⟨5, ![1, 16, 2048, 32, 1]⟩
abbrev S1x16x2048x32x2 : Shape := ⟨5, ![1, 16, 2048, 32, 2]⟩
abbrev S1x16x64x2048 : Shape := ⟨4, ![1, 16, 64, 2048]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x2048x204 : Shape := ⟨4, ![1, 16, 2048, 204]⟩
abbrev S32768x2048 : Shape := ⟨2, ![32768, 2048]⟩
abbrev S32768 : Shape := ⟨1, ![32768]⟩
abbrev S32768x1 : Shape := ⟨2, ![32768, 1]⟩
abbrev S32768x204 : Shape := ⟨2, ![32768, 204]⟩
abbrev S32768x204x1 : Shape := ⟨3, ![32768, 204, 1]⟩
abbrev S32768x204x2 : Shape := ⟨3, ![32768, 204, 2]⟩
abbrev S1x16x2048 : Shape := ⟨3, ![1, 16, 2048]⟩
abbrev S1x16x2048x1 : Shape := ⟨4, ![1, 16, 2048, 1]⟩

abbrev nBuf : Space → Nat
  | .hbm => 251
  | .vmem => 0
  | .smem => 0
  | _ => 0

abbrev hbmTy0_0 (i : Nat) : BufTy := match i % 128 with
  | 0 => ⟨S1x2048x1024, .f32⟩
  | 1 => ⟨S2048, .i32⟩
  | 2 => ⟨S3072x1024, .f32⟩
  | 3 => ⟨S1024x1024, .f32⟩
  | 4 => ⟨S1024, .f32⟩
  | 5 => ⟨S4, .f32⟩
  | 6 => ⟨S4, .f32⟩
  | 7 => ⟨S4, .f32⟩
  | 8 => ⟨S1024, .f32⟩
  | 9 => ⟨S1, .f32⟩
  | 10 => ⟨S1024, .f32⟩
  | 11 => ⟨S2048, .f32⟩
  | 12 => ⟨S1x2048x1, .f32⟩
  | 13 => ⟨S1x1x1024, .f32⟩
  | 14 => ⟨S_, .f32⟩
  | 15 => ⟨S1x1x1024, .f32⟩
  | 16 => ⟨S1x1x1024, .f32⟩
  | 17 => ⟨S1x2048x1024, .f32⟩
  | 18 => ⟨S1x2048x1024, .f32⟩
  | 19 => ⟨S1x2048x1024, .f32⟩
  | 20 => ⟨S_, .f32⟩
  | 21 => ⟨S1x2048x1024, .f32⟩
  | 22 => ⟨S1x2048x1024, .f32⟩
  | 23 => ⟨S1x1x1024, .f32⟩
  | 24 => ⟨S1x2048x1024, .f32⟩
  | 25 => ⟨S1x2048x1024, .f32⟩
  | 26 => ⟨S_, .f32⟩
  | 27 => ⟨S1, .f32⟩
  | 28 => ⟨S1, .f32⟩
  | 29 => ⟨S1x1x1, .f32⟩
  | 30 => ⟨S1x2048x1, .f32⟩
  | 31 => ⟨S1x2048x1, .f32⟩
  | 32 => ⟨S_, .f32⟩
  | 33 => ⟨S1x2048x1, .f32⟩
  | 34 => ⟨S1x2048x1, .f32⟩
  | 35 => ⟨S1x2048x1024, .f32⟩
  | 36 => ⟨S1x2048x1, .f32⟩
  | 37 => ⟨S_, .f32⟩
  | 38 => ⟨S1x2048x1024, .f32⟩
  | 39 => ⟨S1x2048x1024, .f32⟩
  | 40 => ⟨S_, .f32⟩
  | 41 => ⟨S1x2048x1024, .f32⟩
  | 42 => ⟨S1x2048x1024, .f32⟩
  | 43 => ⟨S_, .f32⟩
  | 44 => ⟨S1x2048x1, .f32⟩
  | 45 => ⟨S1x2048x1, .f32⟩
  | 46 => ⟨S1x2048x1024, .f32⟩
  | 47 => ⟨S1x2048x1024, .f32⟩
  | 48 => ⟨S1x2048x1024, .f32⟩
  | 49 => ⟨S1024x3072, .f32⟩
  | 50 => ⟨S1x2048x3072, .f32⟩
  | 51 => ⟨S1x2048x1024, .f32⟩
  | 52 => ⟨S1x2048x1024, .f32⟩
  | 53 => ⟨S1x2048x1024, .f32⟩
  | 54 => ⟨S_, .i32⟩
  | 55 => ⟨S_, .f32⟩
  | 56 => ⟨S1x2051x1024, .f32⟩
  | 57 => ⟨S1x2048x1024, .f32⟩
  | 58 => ⟨S1x2048x1024, .f32⟩
  | 59 => ⟨S1x2048x1024, .f32⟩
  | 60 => ⟨S1x2048x1024, .f32⟩
  | 61 => ⟨S1x2048x1024x1, .f32⟩
  | 62 => ⟨S1x2048x1024x1, .f32⟩
  | 63 => ⟨S1x2048x1024x1, .f32⟩
  | 64 => ⟨S1x2048x1024x1, .f32⟩
  | 65 => ⟨S1x2048x1024x4, .f32⟩
  | 66 => ⟨S1x1x1x4, .f32⟩
  | 67 => ⟨S1x2048x1024x4, .f32⟩
  | 68 => ⟨S1x2048x1024x4, .f32⟩
  | 69 => ⟨S_, .f32⟩
  | 70 => ⟨S1x2048x1024, .f32⟩
  | 71 => ⟨S_, .i32⟩
  | 72 => ⟨S_, .f32⟩
  | 73 => ⟨S1x2051x1024, .f32⟩
  | 74 => ⟨S1x2048x1024, .f32⟩
  | 75 => ⟨S1x2048x1024, .f32⟩
  | 76 => ⟨S1x2048x1024, .f32⟩
  | 77 => ⟨S1x2048x1024, .f32⟩
  | 78 => ⟨S1x2048x1024x1, .f32⟩
  | 79 => ⟨S1x2048x1024x1, .f32⟩
  | 80 => ⟨S1x2048x1024x1, .f32⟩
  | 81 => ⟨S1x2048x1024x1, .f32⟩
  | 82 => ⟨S1x2048x1024x4, .f32⟩
  | 83 => ⟨S1x1x1x4, .f32⟩
  | 84 => ⟨S1x2048x1024x4, .f32⟩
  | 85 => ⟨S1x2048x1024x4, .f32⟩
  | 86 => ⟨S_, .f32⟩
  | 87 => ⟨S1x2048x1024, .f32⟩
  | 88 => ⟨S_, .i32⟩
  | 89 => ⟨S_, .f32⟩
  | 90 => ⟨S1x2051x1024, .f32⟩
  | 91 => ⟨S1x2048x1024, .f32⟩
  | 92 => ⟨S1x2048x1024, .f32⟩
  | 93 => ⟨S1x2048x1024, .f32⟩
  | 94 => ⟨S1x2048x1024, .f32⟩
  | 95 => ⟨S1x2048x1024x1, .f32⟩
  | 96 => ⟨S1x2048x1024x1, .f32⟩
  | 97 => ⟨S1x2048x1024x1, .f32⟩
  | 98 => ⟨S1x2048x1024x1, .f32⟩
  | 99 => ⟨S1x2048x1024x4, .f32⟩
  | 100 => ⟨S1x1x1x4, .f32⟩
  | 101 => ⟨S1x2048x1024x4, .f32⟩
  | 102 => ⟨S1x2048x1024x4, .f32⟩
  | 103 => ⟨S_, .f32⟩
  | 104 => ⟨S1x2048x1024, .f32⟩
  | 105 => ⟨S1x2048x16x64, .f32⟩
  | 106 => ⟨S1x16x2048x64, .f32⟩
  | 107 => ⟨S1x2048x16x64, .f32⟩
  | 108 => ⟨S1x16x2048x64, .f32⟩
  | 109 => ⟨S1x2048x16x64, .f32⟩
  | 110 => ⟨S1x16x2048x64, .f32⟩
  | 111 => ⟨S32, .i32⟩
  | 112 => ⟨S_, .i32⟩
  | 113 => ⟨S32, .i32⟩
  | 114 => ⟨S32, .i32⟩
  | 115 => ⟨S_, .i32⟩
  | 116 => ⟨S32, .i32⟩
  | 117 => ⟨S32, .i32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S1x2048x1024, .f32⟩

abbrev hbmTy0_1 (i : Nat) : BufTy := match i % 128 with
  | 0 => ⟨S2048, .f32⟩
  | 1 => ⟨S2048x1, .f32⟩
  | 2 => ⟨S1x32, .f32⟩
  | 3 => ⟨S2048x32, .f32⟩
  | 4 => ⟨S2048x32, .f32⟩
  | 5 => ⟨S2048x32, .f32⟩
  | 6 => ⟨S2048x32, .f32⟩
  | 7 => ⟨S1x1x2048x32, .f32⟩
  | 8 => ⟨S2048x32, .f32⟩
  | 9 => ⟨S1x1x2048x32, .f32⟩
  | 10 => ⟨S1x16x2048x32, .f32⟩
  | 11 => ⟨S1x16x2048x32, .f32⟩
  | 12 => ⟨S1x16x2048x32, .f32⟩
  | 13 => ⟨S1x16x2048x32, .f32⟩
  | 14 => ⟨S1x16x2048x32, .f32⟩
  | 15 => ⟨S1x16x2048x32, .f32⟩
  | 16 => ⟨S1x16x2048x32, .f32⟩
  | 17 => ⟨S1x16x2048x32, .f32⟩
  | 18 => ⟨S1x16x2048x32, .f32⟩
  | 19 => ⟨S1x16x2048x32, .f32⟩
  | 20 => ⟨S1x16x2048x32, .f32⟩
  | 21 => ⟨S1x16x2048x32, .f32⟩
  | 22 => ⟨S1x16x2048x32x1, .f32⟩
  | 23 => ⟨S1x16x2048x32x1, .f32⟩
  | 24 => ⟨S1x16x2048x32x2, .f32⟩
  | 25 => ⟨S1x16x2048x64, .f32⟩
  | 26 => ⟨S1x16x2048x32, .f32⟩
  | 27 => ⟨S1x16x2048x32, .f32⟩
  | 28 => ⟨S1x16x2048x32, .f32⟩
  | 29 => ⟨S1x16x2048x32, .f32⟩
  | 30 => ⟨S1x16x2048x32, .f32⟩
  | 31 => ⟨S1x16x2048x32, .f32⟩
  | 32 => ⟨S1x16x2048x32, .f32⟩
  | 33 => ⟨S1x16x2048x32, .f32⟩
  | 34 => ⟨S1x16x2048x32, .f32⟩
  | 35 => ⟨S1x16x2048x32, .f32⟩
  | 36 => ⟨S1x16x2048x32, .f32⟩
  | 37 => ⟨S1x16x2048x32, .f32⟩
  | 38 => ⟨S1x16x2048x32x1, .f32⟩
  | 39 => ⟨S1x16x2048x32x1, .f32⟩
  | 40 => ⟨S1x16x2048x32x2, .f32⟩
  | 41 => ⟨S1x16x2048x64, .f32⟩
  | 42 => ⟨S1x16x64x2048, .f32⟩
  | 43 => ⟨S16x2048x64, .f32⟩
  | 44 => ⟨S16x64x2048, .f32⟩
  | 45 => ⟨S16x2048x2048, .f32⟩
  | 46 => ⟨S1x16x2048x2048, .f32⟩
  | 47 => ⟨S_, .f32⟩
  | 48 => ⟨S1x16x2048x2048, .f32⟩
  | 49 => ⟨S1x16x2048x2048, .f32⟩
  | 50 => ⟨S_, .i1⟩
  | 51 => ⟨S2048x2048, .i1⟩
  | 52 => ⟨S2048x2048, .i32⟩
  | 53 => ⟨S_, .i32⟩
  | 54 => ⟨S2048x2048, .i32⟩
  | 55 => ⟨S2048x2048, .i32⟩
  | 56 => ⟨S2048x2048, .i32⟩
  | 57 => ⟨S2048x2048, .i1⟩
  | 58 => ⟨S_, .i1⟩
  | 59 => ⟨S2048x2048, .i1⟩
  | 60 => ⟨S2048x2048, .i1⟩
  | 61 => ⟨S1x1x2048x2048, .i1⟩
  | 62 => ⟨S_, .f32⟩
  | 63 => ⟨S_, .f32⟩
  | 64 => ⟨S1x16x2048x2048, .i1⟩
  | 65 => ⟨S1x16x2048x2048, .f32⟩
  | 66 => ⟨S1x16x2048x2048, .f32⟩
  | 67 => ⟨S1x16x2048x204, .f32⟩
  | 68 => ⟨S1x16x2048x204, .i32⟩
  | 69 => ⟨S_, .f32⟩
  | 70 => ⟨S32768x2048, .f32⟩
  | 71 => ⟨S32768, .i32⟩
  | 72 => ⟨S32768x1, .i32⟩
  | 73 => ⟨S32768x204, .i32⟩
  | 74 => ⟨S32768x204, .f32⟩
  | 75 => ⟨S_, .i32⟩
  | 76 => ⟨S32768x1, .i32⟩
  | 77 => ⟨S32768x1, .i1⟩
  | 78 => ⟨S_, .i32⟩
  | 79 => ⟨S32768x1, .i32⟩
  | 80 => ⟨S32768x1, .i32⟩
  | 81 => ⟨S32768x1, .i32⟩
  | 82 => ⟨S_, .i32⟩
  | 83 => ⟨S32768x204, .i32⟩
  | 84 => ⟨S32768x204, .i1⟩
  | 85 => ⟨S_, .i32⟩
  | 86 => ⟨S32768x204, .i32⟩
  | 87 => ⟨S32768x204, .i32⟩
  | 88 => ⟨S32768x204, .i32⟩
  | 89 => ⟨S32768x204, .i32⟩
  | 90 => ⟨S32768x204x1, .i32⟩
  | 91 => ⟨S32768x204x1, .i32⟩
  | 92 => ⟨S32768x204x2, .i32⟩
  | 93 => ⟨S32768x2048, .f32⟩
  | 94 => ⟨S1x16x2048x2048, .f32⟩
  | 95 => ⟨S_, .f32⟩
  | 96 => ⟨S1x16x2048x2048, .f32⟩
  | 97 => ⟨S1x16x2048x2048, .f32⟩
  | 98 => ⟨S_, .f32⟩
  | 99 => ⟨S1x16x2048, .f32⟩
  | 100 => ⟨S_, .f32⟩
  | 101 => ⟨S1x16x2048, .f32⟩
  | 102 => ⟨S1x16x2048, .f32⟩
  | 103 => ⟨S1x16x2048x1, .f32⟩
  | 104 => ⟨S1x16x2048x2048, .f32⟩
  | 105 => ⟨S1x16x2048x2048, .f32⟩
  | 106 => ⟨S1x16x2048x2048, .f32⟩
  | 107 => ⟨S_, .f32⟩
  | 108 => ⟨S1x16x2048, .f32⟩
  | 109 => ⟨S1x16x2048x1, .f32⟩
  | 110 => ⟨S1x16x2048x2048, .f32⟩
  | 111 => ⟨S1x16x2048x2048, .f32⟩
  | 112 => ⟨S16x2048x2048, .f32⟩
  | 113 => ⟨S16x2048x64, .f32⟩
  | 114 => ⟨S16x2048x64, .f32⟩
  | 115 => ⟨S1x16x2048x64, .f32⟩
  | 116 => ⟨S1x2048x16x64, .f32⟩
  | 117 => ⟨S1x2048x1024, .f32⟩
  | 118 => ⟨S1024x1024, .f32⟩
  | 119 => ⟨S1x2048x1024, .f32⟩
  | 120 => ⟨S1x1x1024, .f32⟩
  | 121 => ⟨S1x2048x1024, .f32⟩
  | 122 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_call0_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_c_7 : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_c_9 : Ref sig .tc := ⟨.hbm, 88, rfl⟩
abbrev main_call2_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_10 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_11 : Ref sig .tc := ⟨.hbm, 112, rfl⟩
abbrev main_v85 : Ref sig .tc := ⟨.hbm, 113, rfl⟩
abbrev main_v86 : Ref sig .tc := ⟨.hbm, 114, rfl⟩
abbrev main_c_12 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_13 : Ref sig .tc := ⟨.hbm, 119, rfl⟩
abbrev main_v90 : Ref sig .tc := ⟨.hbm, 120, rfl⟩
abbrev main_v91 : Ref sig .tc := ⟨.hbm, 121, rfl⟩
abbrev main_cst_14 : Ref sig .tc := ⟨.hbm, 122, rfl⟩
abbrev main_v92 : Ref sig .tc := ⟨.hbm, 123, rfl⟩
abbrev main_v93 : Ref sig .tc := ⟨.hbm, 124, rfl⟩
abbrev main_cst_15 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_16 : Ref sig .tc := ⟨.hbm, 175, rfl⟩
abbrev main_v143 : Ref sig .tc := ⟨.hbm, 176, rfl⟩
abbrev main_v144 : Ref sig .tc := ⟨.hbm, 177, rfl⟩
abbrev main_c_17 : Ref sig .tc := ⟨.hbm, 178, rfl⟩
abbrev main_v145 : Ref sig .tc := ⟨.hbm, 179, rfl⟩
abbrev main_call3_v0 : Ref sig .tc := ⟨.hbm, 180, rfl⟩
abbrev main_call3_c : Ref sig .tc := ⟨.hbm, 181, rfl⟩
abbrev main_call3_v1 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_call3_c_0 : Ref sig .tc := ⟨.hbm, 186, rfl⟩
abbrev main_call3_v5 : Ref sig .tc := ⟨.hbm, 187, rfl⟩
abbrev main_v146 : Ref sig .tc := ⟨.hbm, 188, rfl⟩
abbrev main_v147 : Ref sig .tc := ⟨.hbm, 189, rfl⟩
abbrev main_cst_18 : Ref sig .tc := ⟨.hbm, 190, rfl⟩
abbrev main_call4_v0 : Ref sig .tc := ⟨.hbm, 191, rfl⟩
abbrev main_call4_v1 : Ref sig .tc := ⟨.hbm, 192, rfl⟩
abbrev main_call4_v2 : Ref sig .tc := ⟨.hbm, 193, rfl⟩
abbrev main_v148 : Ref sig .tc := ⟨.hbm, 194, rfl⟩
abbrev main_values : Ref sig .tc := ⟨.hbm, 195, rfl⟩
abbrev main_indices : Ref sig .tc := ⟨.hbm, 196, rfl⟩
abbrev main_cst_19 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_c_20 : Ref sig .tc := ⟨.hbm, 203, rfl⟩
abbrev main_v154 : Ref sig .tc := ⟨.hbm, 204, rfl⟩
abbrev main_v155 : Ref sig .tc := ⟨.hbm, 205, rfl⟩
abbrev main_c_21 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_c_22 : Ref sig .tc := ⟨.hbm, 210, rfl⟩
abbrev main_v159 : Ref sig .tc := ⟨.hbm, 211, rfl⟩
abbrev main_v160 : Ref sig .tc := ⟨.hbm, 212, rfl⟩
abbrev main_c_23 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_24 : Ref sig .tc := ⟨.hbm, 223, rfl⟩
abbrev main_v170 : Ref sig .tc := ⟨.hbm, 224, rfl⟩
abbrev main_v171 : Ref sig .tc := ⟨.hbm, 225, rfl⟩
abbrev main_cst_25 : Ref sig .tc := ⟨.hbm, 226, rfl⟩
abbrev main_v172 : Ref sig .tc := ⟨.hbm, 227, rfl⟩
abbrev main_cst_26 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_27 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩

abbrev nD : Nat := 1
abbrev τ : Topo := Topo.v7x

variable {F : FTy → Type} [FloatOps F]
-- ==== Proof.Spec.Attention.lean ====
module

public import Idealize.ShloMosaic.Lib.Pointwise
public import Idealize.ShloMosaic.PureOps.Ideal.Laws

/-!
# What the two programs compute, entry by entry

The functions of the arrays that both the kernel and the reference are shown to compute. Everything before the weights
of the attention is the same function on both sides; the weights are a parameter here, because the two programs reach
them by different routes.
-/

@[expose] public section

noncomputable section

namespace Cert.Proof.Spec

open Idealize.ShloMosaic

/-- The arrays both programs are called with. -/
structure Args where
  x : (⟨3, ![1, 2048, 1024]⟩ : Shape).Idx → EReal
  pos : (⟨1, ![2048]⟩ : Shape).Idx → BitVec 32
  wqkv : (⟨2, ![3072, 1024]⟩ : Shape).Idx → EReal
  wproj : (⟨2, ![1024, 1024]⟩ : Shape).Idx → EReal
  bproj : (⟨1, ![1024]⟩ : Shape).Idx → EReal
  tkq : (⟨1, ![4]⟩ : Shape).Idx → EReal
  tkk : (⟨1, ![4]⟩ : Shape).Idx → EReal
  tkv : (⟨1, ![4]⟩ : Shape).Idx → EReal
  gamma : (⟨1, ![1024]⟩ : Shape).Idx → EReal
  theta : (⟨1, ![1]⟩ : Shape).Idx → EReal
  phase : (⟨1, ![1024]⟩ : Shape).Idx → EReal

variable (A : Args)

/-- The position of a row, as a number. -/
def position (s : Fin 2048) : EReal := FloatOps.sitofp (F := Ideal) .f32 (A.pos (ix1 s))

/-- The oscillating gain on feature `d` of row `s`. -/
def gain (s : Fin 2048) (d : Fin 1024) : EReal :=
  Ideal.ofBits .f32 1056964608#32
    + Ideal.ofBits .f32 1050253722#32
      * Ideal.cos (Ideal.div (Ideal.ofBits .f32 1086918619#32 * A.gamma (ix1 d) * position A s)
          (Ideal.ofBits .f32 1120403456#32) + A.phase (ix1 d))
    + Ideal.ofBits .f32 1045220557#32
      * Ideal.cos (Ideal.div (Ideal.ofBits .f32 1086918619#32 * A.theta (ix1 0) * position A s)
          (Ideal.ofBits .f32 1120403456#32))

/-- Column `c` of the projection of the modulated row `s`. -/
def proj (c : Fin 3072) (s : Fin 2048) : EReal :=
  ∑ d : Fin 1024, A.x (ix3 0 s d) * gain A s d * A.wqkv (ix2 c d)

/-- A sequence with three zeros in front of it. -/
def past (f : Fin 2048 → EReal) (n : ℕ) : EReal :=
  if h : 3 ≤ n ∧ n - 3 < 2048 then f ⟨n - 3, h.2⟩ else 0

/-- The mixing of a row with the three rows before it. -/
def mix (w : (⟨1, ![4]⟩ : Shape).Idx → EReal) (f : Fin 2048 → EReal) (s : Fin 2048) : EReal :=
  w (ix1 0) * past f s.val + w (ix1 1) * past f (1 + s.val) + w (ix1 2) * past f (2 + s.val)
    + w (ix1 3) * past f (3 + s.val)

/-- Queries before their rotation. -/
def query (s : Fin 2048) (c : Fin 1024) : EReal := mix A.tkq (proj A ⟨c.val, by omega⟩) s

/-- Keys before their rotation. -/
def key (s : Fin 2048) (c : Fin 1024) : EReal := mix A.tkk (proj A ⟨1024 + c.val, by omega⟩) s

/-- Values. -/
def val (s : Fin 2048) (c : Fin 1024) : EReal := mix A.tkv (proj A ⟨2048 + c.val, by omega⟩) s

/-- The angle by which pair `d` of row `s` is rotated. -/
def angle (s : Fin 2048) (d : ℕ) : EReal :=
  position A s * Ideal.div 1 (Ideal.pow (Ideal.ofBits .f32 1176256512#32)
    (Ideal.div (FloatOps.sitofp (F := Ideal) .f32 (IntOp.addi 0#32 (IntOp.muli 2#32 (BitVec.ofNat 32 d))))
      (Ideal.ofBits .f32 1115684864#32)))

/-- A row with its pairs of neighbouring columns rotated. -/
def rope (t : Fin 2048 → Fin 1024 → EReal) (s : Fin 2048) (c : Fin 1024) : EReal :=
  if h : c.val % 2 = 0 then
    t s c * Ideal.cos (angle A s (c.val % 64 / 2))
      - t s ⟨c.val + 1, by omega⟩ * Ideal.sin (angle A s (c.val % 64 / 2))
  else
    t s ⟨c.val - 1, by omega⟩ * Ideal.sin (angle A s (c.val % 64 / 2))
      + t s c * Ideal.cos (angle A s (c.val % 64 / 2))

/-- The column of the model dimension that is column `e` of head `h`. -/
def col (h : Fin 16) (e : Fin 64) : Fin 1024 := ⟨h.val * 64 + e.val, by omega⟩

/-- The scaled product of query `s` and key `j` in head `h`. -/
def score (h : Fin 16) (s j : Fin 2048) : EReal :=
  (∑ e : Fin 64, rope A (query A) s (col h e) * rope A (key A) j (col h e)) * Ideal.ofBits .f32 1040187392#32

/-- A head's output at row `s`, from the weights `w` of that row. -/
def attend (w : Fin 2048 → EReal) (h : Fin 16) (e : Fin 64) : EReal :=
  ∑ j : Fin 2048, Ideal.div (w j) (∑ i : Fin 2048, w i) * val A j (col h e)

/-- Entry `c` of row `s` of the result, from that row's weights in every head. -/
def result (w : Fin 16 → Fin 2048 → EReal) (c : Fin 1024) : EReal :=
  (∑ d : Fin 1024, attend A (w ⟨d.val / 64, by omega⟩) ⟨d.val / 64, by omega⟩ ⟨d.val % 64, by omega⟩ * A.wproj (ix2 c d))
    + A.bproj (ix1 c)

/-- The word zero, as a number. -/
theorem sitofp_zero : (FloatOps.sitofp (F := Ideal) .f32 0#32 : EReal) = 0 := by
  show (((0#32 : BitVec 32).toInt : ℝ) : EReal) = 0
  simp

/-- The mixing as a sum over four shifted copies. -/
theorem mix_sum (w : (⟨1, ![4]⟩ : Shape).Idx → EReal) (f : Fin 2048 → EReal) (s : Fin 2048) :
    (∑ x : Fin 4, (if x.val < 1 then past f s.val else if x.val - 1 < 1 then past f (1 + s.val)
      else if x.val - 1 - 1 < 1 then past f (2 + s.val) else past f (3 + s.val)) * w (ix1 x)) = mix w f s := by
  rw [Fin.sum_univ_four]
  simp only [mix, Fin.val_zero, Fin.val_one, Fin.val_two, mul_comm (w _)]
  rfl

/-- A rotated row, from the even and the odd member of each pair of columns. -/
theorem rope_pair (t : Fin 2048 → Fin 1024 → EReal) (h : Fin 16) (s : Fin 2048) (x : Fin 64) :
    (if _hx : x.val % 2 < 1 then
      t s (col h ⟨2 * (x.val / 2), by omega⟩) * Ideal.cos (angle A s (x.val / 2))
        - t s (col h ⟨1 + 2 * (x.val / 2), by omega⟩) * Ideal.sin (angle A s (x.val / 2))
    else
      t s (col h ⟨2 * (x.val / 2), by omega⟩) * Ideal.sin (angle A s (x.val / 2))
        + t s (col h ⟨1 + 2 * (x.val / 2), by omega⟩) * Ideal.cos (angle A s (x.val / 2)))
      = rope A t s (col h x) := by
  have hp : (col h x).val % 64 / 2 = x.val / 2 := by simp only [col]; omega
  unfold rope
  rw [hp]
  by_cases hx : x.val % 2 < 1
  · rw [dif_pos hx, dif_pos (by simp only [col]; omega)]
    have h0 : (⟨2 * (x.val / 2), by omega⟩ : Fin 64) = x := Fin.ext (by simp only []; omega)
    have h1 : col h ⟨1 + 2 * (x.val / 2), by omega⟩ = ⟨(col h x).val + 1, by simp only [col]; omega⟩ :=
      Fin.ext (by simp only [col]; omega)
    rw [h0, h1]
  · rw [dif_neg hx, dif_neg (by simp only [col]; omega)]
    have h0 : (⟨1 + 2 * (x.val / 2), by omega⟩ : Fin 64) = x := Fin.ext (by simp only []; omega)
    have h1 : col h ⟨2 * (x.val / 2), by omega⟩ = ⟨(col h x).val - 1, by simp only [col]; omega⟩ :=
      Fin.ext (by simp only [col]; omega)
    rw [h0, h1]

end Cert.Proof.Spec

end
-- ==== Proof.Kern.Host.lean ====
module

public import proofs.«01_k».proof.Proof.Gen.KernelIdeal.Frame
public import proofs.«01_k».proof.Proof.Spec.Attention
public import Idealize.ShloMosaic.Lib.StableHlo.ReadAt
public import Idealize.ShloMosaic.Lib.Pointwise

/-!
# The kernel's host stretches at an index

What the operations between the kernel's regions leave in each array a region reads, entry by entry, from the contents
before the stretch.
-/

@[expose] public section

noncomputable section

namespace Cert.Proof.Kern

open Cert.KernelIdeal Cert.KernelIdeal.Gen Idealize.ShloMosaic Idealize.ShloMosaic.TcCoe Idealize.ShloMosaic.Tactic Idealize.ShloMosaic.StableHlo

variable (V : Valuation τ sig (Elt Ideal))

/-- The arguments a valuation holds. -/
def args : Spec.Args where
  x := (V (Proc.devRef .tc main_arg0) : S1x2048x1024.Idx → EReal)
  pos := (V (Proc.devRef .tc main_arg1) : S2048.Idx → BitVec 32)
  wqkv := (V (Proc.devRef .tc main_arg2) : S3072x1024.Idx → EReal)
  wproj := (V (Proc.devRef .tc main_arg3) : S1024x1024.Idx → EReal)
  bproj := (V (Proc.devRef .tc main_arg4) : S1024.Idx → EReal)
  tkq := (V (Proc.devRef .tc main_arg5) : S4.Idx → EReal)
  tkk := (V (Proc.devRef .tc main_arg6) : S4.Idx → EReal)
  tkv := (V (Proc.devRef .tc main_arg7) : S4.Idx → EReal)
  gamma := (V (Proc.devRef .tc main_arg8) : S1024.Idx → EReal)
  theta := (V (Proc.devRef .tc main_arg9) : S1.Idx → EReal)
  phase := (V (Proc.devRef .tc main_arg10) : S1024.Idx → EReal)

/-- The input with rows of zeros around it. -/
theorem padded_at (p : Fin 2056) (d : Fin 1024) :
    (StableHlo.after (hostOps0_1 (F := Ideal)) (StableHlo.after (hostOps0 (F := Ideal)) V) (Proc.devRef .tc main_v1) : S2056x1024.Idx → EReal) (ix2 p d)
      = Spec.past (fun s => (args V).x (ix3 0 s d)) p.val := by
  unfold Spec.past
  rw [← Spec.sitofp_zero]
  after_reads_at
  rfl

/-- The three parts of the projection's weights. -/
theorem weight_q_at (p d : Fin 1024) :
    (StableHlo.after (hostOps0_2 (F := Ideal)) V (Proc.devRef .tc main_v2) : S1024x1024.Idx → EReal) (ix2 p d) = (args V).wqkv (ix2 ⟨p.val, by omega⟩ d) := by
  after_reads_at
  rfl

theorem weight_k_at (p d : Fin 1024) :
    (StableHlo.after (hostOps0_2 (F := Ideal)) V (Proc.devRef .tc main_v3) : S1024x1024.Idx → EReal) (ix2 p d) = (args V).wqkv (ix2 ⟨1024 + p.val, by omega⟩ d) := by
  after_reads_at
  rfl

theorem weight_v_at (p d : Fin 1024) :
    (StableHlo.after (hostOps0_2 (F := Ideal)) V (Proc.devRef .tc main_v4) : S1024x1024.Idx → EReal) (ix2 p d) = (args V).wqkv (ix2 ⟨2048 + p.val, by omega⟩ d) := by
  after_reads_at
  rfl

/-- The gain. -/
theorem gain_at (p : Fin 2048) (d : Fin 1024) :
    (StableHlo.after (hostOps0_2 (F := Ideal)) V (Proc.devRef .tc main_v35) : S2048x1024.Idx → EReal) (ix2 p d) = Spec.gain (args V) p d := by
  unfold Spec.gain Spec.position
  after_reads_at
  rfl

/-- The gain with rows of zeros around it. -/
theorem gain_padded_at (p : Fin 2056) (d : Fin 1024) :
    (StableHlo.after (hostOps0_3 (F := Ideal)) (StableHlo.after (hostOps0_2 (F := Ideal)) V) (Proc.devRef .tc main_v36) : S2056x1024.Idx → EReal) (ix2 p d)
      = Spec.past (fun s => Spec.gain (args V) s d) p.val := by
  unfold Spec.past Spec.gain Spec.position
  rw [← Spec.sitofp_zero]
  after_reads_at
  rfl

/-- The cosines and sines of the rotation. -/
theorem cos_at (p : Fin 2048) (d : Fin 1024) :
    (StableHlo.after (hostOps0_4 (F := Ideal)) V (Proc.devRef .tc main_v60) : S2048x1024.Idx → EReal) (ix2 p d) = Ideal.cos (Spec.angle (args V) p (d.val % 64 / 2)) := by
  unfold Spec.angle Spec.position
  after_reads_at
  rfl

theorem sin_at (p : Fin 2048) (d : Fin 1024) :
    (StableHlo.after (hostOps0_4 (F := Ideal)) V (Proc.devRef .tc main_v66) : S2048x1024.Idx → EReal) (ix2 p d) = Ideal.sin (Spec.angle (args V) p (d.val % 64 / 2)) := by
  unfold Spec.angle Spec.position
  after_reads_at
  rfl

/-- The heads of the queries, keys and values. -/
theorem heads_q_at (h : Fin 16) (p : Fin 2048) (d : Fin 64) :
    (StableHlo.after (hostOps1 (F := Ideal)) V (Proc.devRef .tc main_v69) : S16x2048x64.Idx → EReal) (ix3 h p d)
      = (V (Proc.devRef .tc main_v67_0) : S2048x1024.Idx → EReal) (ix2 p (Spec.col h d)) := by
  unfold Spec.col
  after_reads_at

theorem heads_k_at (h : Fin 16) (p : Fin 2048) (d : Fin 64) :
    (StableHlo.after (hostOps1 (F := Ideal)) V (Proc.devRef .tc main_v71) : S16x2048x64.Idx → EReal) (ix3 h p d)
      = (V (Proc.devRef .tc main_v67_1) : S2048x1024.Idx → EReal) (ix2 p (Spec.col h d)) := by
  unfold Spec.col
  after_reads_at

theorem heads_v_at (h : Fin 16) (p : Fin 2048) (d : Fin 64) :
    (StableHlo.after (hostOps1 (F := Ideal)) V (Proc.devRef .tc main_v73) : S16x2048x64.Idx → EReal) (ix3 h p d)
      = (V (Proc.devRef .tc main_v67_2) : S2048x1024.Idx → EReal) (ix2 p (Spec.col h d)) := by
  unfold Spec.col
  after_reads_at

/-- The heads side by side again. -/
theorem joined_at (p : Fin 2048) (d : Fin 1024) :
    (StableHlo.after (hostOps2 (F := Ideal)) V (Proc.devRef .tc main_v76) : S2048x1024.Idx → EReal) (ix2 p d)
      = (V (Proc.devRef .tc main_v74) : S16x2048x64.Idx → EReal) (ix3 ⟨d.val / 64, by omega⟩ p ⟨d.val % 64, by omega⟩) := by
  after_reads_at

/-- The bias. -/
theorem bias_at (d : Fin 1024) :
    (StableHlo.after (hostOps2 (F := Ideal)) V (Proc.devRef .tc main_v77) : S1x1024.Idx → EReal) (ix2 0 d)
      = (V (Proc.devRef .tc main_arg4) : S1024.Idx → EReal) (ix1 d) := by
  after_reads_at

/-- The result. -/
theorem result_at (p : Fin 2048) (d : Fin 1024) :
    (StableHlo.after (hostOps3 (F := Ideal)) V (Proc.devRef .tc main_v79) : S1x2048x1024.Idx → EReal) (ix3 0 p d)
      = (V (Proc.devRef .tc main_v78) : S2048x1024.Idx → EReal) (ix2 p d) := by
  after_reads_at

end Cert.Proof.Kern

end
-- ==== Proof.Kern.Prep.lean ====
/- The preparation body of the kernel on one block of 512 rows: projection of the modulated rows, mixing with the three rows
   before, and rotation of the queries and keys. -/
module

public import proofs.«01_k».proof.Proof.Gen.KernelIdeal.Frame
public import Idealize.ShloMosaic.Lib.Pointwise
public import Idealize.ShloMosaic.Lib.WordCmp
public import Idealize.ShloMosaic.PureOps.Ideal.Laws
public import Idealize.ShloMosaic.Lib.Pipeline.ValueKit.Tiles

@[expose] public section

noncomputable section

namespace Cert.Proof.Kern

open Idealize.ShloMosaic Idealize.ShloMosaic.TcCoe Idealize.ShloMosaic.Tactic Cert.KernelIdeal Cert.KernelIdeal.Gen

theorem hz2 : (![0, 0] : Fin 2 → Nat) = fun _ => 0 := funext fun a => by fin_cases a <;> rfl

/-- Row `r` of block `i` is row `512 i + r` of the sequence. -/
def row (i : grid0.Coords) (r : Fin 512) : Fin 2048 :=
  ⟨(i 0).val * 512 + r.val, by have h : (i 0).val < 4 := (i 0).isLt; omega⟩

/-- The 520 rows of a padded array that block `i` reads. -/
abbrev slab (i : grid0.Coords) (x : Vec Ideal S2056x1024 .f32) : Vec Ideal S520x1024 .f32 :=
  View.ld x (Rect.unit (k0_off1 i) S520x1024.size (k0_off1_inb i))

theorem off_at (i : grid0.Coords) : k0_off1 i 0 = (i 0).val * 512 :=
  (by decide : ∀ n : Fin 4, BitVec.toNat (Scalar.indexCast (Scalar.muli (BitVec.ofNat 32 n.val) 512#32)) = n.val * 512) (i 0)

theorem slab_at (i : grid0.Coords) (x : Vec Ideal S2056x1024 .f32) (p : Fin 520) (q : Fin 2056) (d : Fin 1024)
    (hq : q.val = (i 0).val * 512 + p.val) : slab i x (ix2 p d) = x (ix2 q d) := by
  refine View.ld_unit_apply_of x _ _ _ _ _ ?_
  intro a
  match a with
  | ⟨0, _⟩ => show q.val = k0_off1 i 0 + p.val; rw [off_at, hq]
  | ⟨1, _⟩ => show d.val = 0 + d.val; omega

theorem word0 (t : Vec Ideal S4 .f32) (inb) (h) : View.ld t (Rect.unit ![0] ![1] inb) (Shape.Idx.first h) = t (ix1 0) := by
  refine View.ld_unit_apply_of t _ _ _ _ _ ?_
  intro a; match a with | ⟨0, _⟩ => rfl

theorem word1 (t : Vec Ideal S4 .f32) (inb) (h) : View.ld t (Rect.unit ![1] ![1] inb) (Shape.Idx.first h) = t (ix1 1) := by
  refine View.ld_unit_apply_of t _ _ _ _ _ ?_
  intro a; match a with | ⟨0, _⟩ => rfl

theorem word2 (t : Vec Ideal S4 .f32) (inb) (h) : View.ld t (Rect.unit ![2] ![1] inb) (Shape.Idx.first h) = t (ix1 2) := by
  refine View.ld_unit_apply_of t _ _ _ _ _ ?_
  intro a; match a with | ⟨0, _⟩ => rfl

theorem word3 (t : Vec Ideal S4 .f32) (inb) (h) : View.ld t (Rect.unit ![3] ![1] inb) (Shape.Idx.first h) = t (ix1 3) := by
  refine View.ld_unit_apply_of t _ _ _ _ _ ?_
  intro a; match a with | ⟨0, _⟩ => rfl

/-- A row of the padded arrays, multiplied and projected to column `l`. -/
def projected (x g : Vec Ideal S2056x1024 .f32) (w : Vec Ideal S1024x1024 .f32) (l : Fin 1024) (q : Fin 2056) : EReal :=
  ∑ d, x (ix2 q d) * g (ix2 q d) * w (ix2 l d)

/-- The mixing of row `s` with the rows before it, in the padded arrays. -/
def mixed (x g : Vec Ideal S2056x1024 .f32) (w : Vec Ideal S1024x1024 .f32) (t : Vec Ideal S4 .f32) (s : Fin 2048) (l : Fin 1024) : EReal :=
  t (ix1 0) * projected x g w l ⟨s.val, by omega⟩ + t (ix1 1) * projected x g w l ⟨1 + s.val, by omega⟩
    + t (ix1 2) * projected x g w l ⟨2 + s.val, by omega⟩ + t (ix1 3) * projected x g w l ⟨3 + s.val, by omega⟩

/-- A column and its neighbour of the pair, rotated. -/
def turned (m : Fin 1024 → EReal) (cs sn : EReal) (l : Fin 1024) : EReal :=
  if h : l.val % 2 = 0 then m l * cs - m ⟨l.val + 1, by omega⟩ * sn
  else m ⟨l.val - 1, by omega⟩ * sn + m l * cs

/-- The kernel's word arithmetic on a column asks whether it is even. -/
theorem even_at : ∀ l : Fin 1024, IntOp.cmpi .eq
    (Scalar.select
      (IntOp.andi
        (IntOp.xori
          (IntOp.cmpi .slt (IntOp.remsi .vector (BitVec.ofNat 32 l.val) (Scalar.select (Scalar.cmpi .eq 2#32 0#32) 1#32 2#32)) 0#32)
          (Scalar.cmpi .slt 2#32 0#32))
        (IntOp.cmpi .ne (IntOp.remsi .vector (BitVec.ofNat 32 l.val) (Scalar.select (Scalar.cmpi .eq 2#32 0#32) 1#32 2#32)) 0#32))
      (IntOp.addi (IntOp.remsi .vector (BitVec.ofNat 32 l.val) (Scalar.select (Scalar.cmpi .eq 2#32 0#32) 1#32 2#32)) 2#32)
      (IntOp.remsi .vector (BitVec.ofNat 32 l.val) (Scalar.select (Scalar.cmpi .eq 2#32 0#32) 1#32 2#32)))
    0#32 = BitVec.ofBool (decide (l.val % 2 = 0)) := by
  decide +kernel

/-- The rotation of a block, at an index. -/
theorem turned_at (t cs sn : Vec Ideal S512x1024 .f32) (r : Fin 512) (l : Fin 1024) :
    k0_pay12 (F := Ideal) t (k0_pay8 cs) (k0_pay9 sn) (2#32) k0_pay10 0#32 (ix2 r l)
      = turned (fun l => t (ix2 r l)) (cs (ix2 r l)) (sn (ix2 r l)) l := by
  have e : k0_pay12 (F := Ideal) t (k0_pay8 cs) (k0_pay9 sn) (2#32) k0_pay10 0#32 (ix2 r l)
      = t (ix2 r l) * cs (ix2 r l) + Scalar.select (BitVec.ofBool (decide (l.val % 2 = 0)))
          (0 - if h : l.val < 1023 then t (ix2 r ⟨1 + l.val, by omega⟩) else t (ix2 r ⟨l.val - 1023, by omega⟩))
          (if h : l.val < 1 then t (ix2 r ⟨1023 + l.val, by omega⟩) else t (ix2 r ⟨l.val - 1, by omega⟩)) * sn (ix2 r l) := by
    rw [← even_at l]
    pointwise [k0_pay12, k0_pay8, k0_pay9, k0_pay10, k0_pay11]
  rw [e, WordCmp.select_ofBool]
  unfold turned
  by_cases h : l.val % 2 = 0
  · have h1 : (⟨1 + l.val, by omega⟩ : Fin 1024) = ⟨l.val + 1, by omega⟩ := Fin.ext (Nat.add_comm _ _)
    rw [dif_pos h, if_pos (by simpa using h), dif_pos (by omega), h1, zero_sub, EReal.neg_mul, sub_eq_add_neg]
  · rw [dif_neg h, if_neg (by simpa using h), dif_neg (by omega), add_comm]

theorem mix_at (i : grid0.Coords) (x g : Vec Ideal S2056x1024 .f32) (w : Vec Ideal S1024x1024 .f32) (t : Vec Ideal S4 .f32) (r : Fin 512)
    (l : Fin 1024) :
    (t (ix1 0) * ∑ d, slab i x (ix2 ⟨r.val, by omega⟩ d) * slab i g (ix2 ⟨r.val, by omega⟩ d) * w (ix2 l d)
      + t (ix1 1) * ∑ d, slab i x (ix2 ⟨1 + r.val, by omega⟩ d) * slab i g (ix2 ⟨1 + r.val, by omega⟩ d) * w (ix2 l d)
      + t (ix1 2) * ∑ d, slab i x (ix2 ⟨2 + r.val, by omega⟩ d) * slab i g (ix2 ⟨2 + r.val, by omega⟩ d) * w (ix2 l d)
      + t (ix1 3) * ∑ d, slab i x (ix2 ⟨3 + r.val, by omega⟩ d) * slab i g (ix2 ⟨3 + r.val, by omega⟩ d) * w (ix2 l d))
      = mixed x g w t (row i r) l := by
  have hs := (row i r).isLt
  have h : ∀ (n : ℕ) (hn : n < 4) (p : Fin 520) (hp : p.val = n + r.val) (d : Fin 1024), slab i x (ix2 p d) * slab i g (ix2 p d) * w (ix2 l d)
      = x (ix2 ⟨n + (row i r).val, by omega⟩ d) * g (ix2 ⟨n + (row i r).val, by omega⟩ d) * w (ix2 l d) := by
    intro n hn p hp d
    have hq : n + (row i r).val = (i 0).val * 512 + p.val := by rw [hp]; simp only [row]; omega
    rw [slab_at i x p ⟨n + (row i r).val, by omega⟩ d hq, slab_at i g p ⟨n + (row i r).val, by omega⟩ d hq]
  unfold mixed projected
  simp only [h 0 (by omega) ⟨r.val, by omega⟩ (by simp), h 1 (by omega) ⟨1 + r.val, by omega⟩ rfl, h 2 (by omega) ⟨2 + r.val, by omega⟩ rfl,
    h 3 (by omega) ⟨3 + r.val, by omega⟩ rfl, Nat.zero_add]

/-- What the body stores of the queries, of the arrays it reads. -/
theorem query_stored (c : Dev nD) (i : grid0.Coords)
    (arg1 : Memref sig .tc .vmem S2056x1024 .f32) (harg1 : arg1.IsWhole)
    (arg2 : Memref sig .tc .vmem S2056x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .smem S4 .f32) (harg8 : arg8.IsWhole)
    (arg9 : Memref sig .tc .smem S4 .f32) (harg9 : arg9.IsWhole)
    (arg10 : Memref sig .tc .smem S4 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S512x1024 .f32) (harg13 : arg13.IsWhole)
    (x g : Vec Ideal S2056x1024 .f32) (cs sn : Vec Ideal S512x1024 .f32) (wq wk wv : Vec Ideal S1024x1024 .f32) (tq tk tv : Vec Ideal S4 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x g cs sn wq wk wv tq tk tv
      = k0_pay12 (k0_pay2 (slab i x) (slab i g) wq (tq (ix1 0)) (tq (ix1 1)) (tq (ix1 2)) (tq (ix1 3))) (k0_pay8 cs) (k0_pay9 sn) (2#32) k0_pay10 0#32 := by
  unfold out0_A_10
  rw [View.read_writes_junk_eq_canon]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz2,
    View.ld_unit_zero (S := S1024x1024) hz2]
  rw [← word0 tq inb_S4_S1_0 (by decide), ← word1 tq inb_S4_S1_1 (by decide), ← word2 tq inb_S4_S1_2 (by decide),
    ← word3 tq inb_S4_S1_3 (by decide)]
  rfl

/-- What the body stores of the keys. -/
theorem key_stored (c : Dev nD) (i : grid0.Coords)
    (arg1 : Memref sig .tc .vmem S2056x1024 .f32) (harg1 : arg1.IsWhole)
    (arg2 : Memref sig .tc .vmem S2056x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .smem S4 .f32) (harg8 : arg8.IsWhole)
    (arg9 : Memref sig .tc .smem S4 .f32) (harg9 : arg9.IsWhole)
    (arg10 : Memref sig .tc .smem S4 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S512x1024 .f32) (harg13 : arg13.IsWhole)
    (x g : Vec Ideal S2056x1024 .f32) (cs sn : Vec Ideal S512x1024 .f32) (wq wk wv : Vec Ideal S1024x1024 .f32) (tq tk tv : Vec Ideal S4 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x g cs sn wq wk wv tq tk tv
      = k0_pay13 (k0_pay6 (k0_pay3 (slab i x) (slab i g) wk) (k0_pay4 (slab i x) (slab i g) wk (tk (ix1 0)))
          (k0_pay5 (slab i x) (slab i g) wk (tk (ix1 1))) (tk (ix1 2)) (tk (ix1 3))) (k0_pay8 cs) (k0_pay9 sn) (2#32) k0_pay10 0#32 := by
  unfold out0_A_11
  rw [View.read_writes_junk_eq_canon]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz2,
    View.ld_unit_zero (S := S1024x1024) hz2]
  rw [← word0 tk inb_S4_S1_0 (by decide), ← word1 tk inb_S4_S1_1 (by decide), ← word2 tk inb_S4_S1_2 (by decide),
    ← word3 tk inb_S4_S1_3 (by decide)]
  rfl

/-- What the body stores of the values. -/
theorem val_stored (c : Dev nD) (i : grid0.Coords)
    (arg1 : Memref sig .tc .vmem S2056x1024 .f32) (harg1 : arg1.IsWhole)
    (arg2 : Memref sig .tc .vmem S2056x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .smem S4 .f32) (harg8 : arg8.IsWhole)
    (arg9 : Memref sig .tc .smem S4 .f32) (harg9 : arg9.IsWhole)
    (arg10 : Memref sig .tc .smem S4 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S512x1024 .f32) (harg13 : arg13.IsWhole)
    (x g : Vec Ideal S2056x1024 .f32) (cs sn : Vec Ideal S512x1024 .f32) (wq wk wv : Vec Ideal S1024x1024 .f32) (tq tk tv : Vec Ideal S4 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 x g cs sn wq wk wv tq tk tv
      = k0_pay7 (k0_pay1 (slab i x) (slab i g)) wv (tv (ix1 0)) (tv (ix1 1)) (tv (ix1 2)) (tv (ix1 3)) := by
  unfold out0_A_12
  rw [View.read_writes_junk_eq_canon]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz2,
    View.ld_unit_zero (S := S1024x1024) hz2]
  rw [← word0 tv inb_S4_S1_0 (by decide), ← word1 tv inb_S4_S1_1 (by decide), ← word2 tv inb_S4_S1_2 (by decide),
    ← word3 tv inb_S4_S1_3 (by decide)]
  rfl

/-- The stored queries, at an index. -/
theorem query_block (r : Fin 512) (l : Fin 1024) (c : Dev nD) (i : grid0.Coords)
    (arg1 : Memref sig .tc .vmem S2056x1024 .f32) (harg1 : arg1.IsWhole)
    (arg2 : Memref sig .tc .vmem S2056x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .smem S4 .f32) (harg8 : arg8.IsWhole)
    (arg9 : Memref sig .tc .smem S4 .f32) (harg9 : arg9.IsWhole)
    (arg10 : Memref sig .tc .smem S4 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S512x1024 .f32) (harg13 : arg13.IsWhole)
    (x g : Vec Ideal S2056x1024 .f32) (cs sn : Vec Ideal S512x1024 .f32) (wq wk wv : Vec Ideal S1024x1024 .f32) (tq tk tv : Vec Ideal S4 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x g cs sn wq wk wv tq tk tv (ix2 r l)
      = turned (fun l => mixed x g wq tq (row i r) l) (cs (ix2 r l)) (sn (ix2 r l)) l := by
  rw [query_stored]
  rw [turned_at]
  have h : ∀ l, k0_pay2 (slab i x) (slab i g) wq (tq (ix1 0)) (tq (ix1 1)) (tq (ix1 2)) (tq (ix1 3)) (ix2 r l) = mixed x g wq tq (row i r) l := by
    intro l
    rw [← mix_at]
    pointwise [k0_pay2, k0_pay1]
  simp only [h]

/-- The stored keys, at an index. -/
theorem key_block (r : Fin 512) (l : Fin 1024) (c : Dev nD) (i : grid0.Coords)
    (arg1 : Memref sig .tc .vmem S2056x1024 .f32) (harg1 : arg1.IsWhole)
    (arg2 : Memref sig .tc .vmem S2056x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .smem S4 .f32) (harg8 : arg8.IsWhole)
    (arg9 : Memref sig .tc .smem S4 .f32) (harg9 : arg9.IsWhole)
    (arg10 : Memref sig .tc .smem S4 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S512x1024 .f32) (harg13 : arg13.IsWhole)
    (x g : Vec Ideal S2056x1024 .f32) (cs sn : Vec Ideal S512x1024 .f32) (wq wk wv : Vec Ideal S1024x1024 .f32) (tq tk tv : Vec Ideal S4 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x g cs sn wq wk wv tq tk tv (ix2 r l)
      = turned (fun l => mixed x g wk tk (row i r) l) (cs (ix2 r l)) (sn (ix2 r l)) l := by
  rw [key_stored]
  refine (turned_at _ cs sn r l).trans ?_
  have h : ∀ l, k0_pay6 (k0_pay3 (slab i x) (slab i g) wk) (k0_pay4 (slab i x) (slab i g) wk (tk (ix1 0)))
      (k0_pay5 (slab i x) (slab i g) wk (tk (ix1 1))) (tk (ix1 2)) (tk (ix1 3)) (ix2 r l) = mixed x g wk tk (row i r) l := by
    intro l
    rw [← mix_at]
    pointwise [k0_pay3, k0_pay4, k0_pay5, k0_pay6, k0_pay1]
  simp only [h]

/-- The stored values, at an index. -/
theorem val_block (r : Fin 512) (l : Fin 1024) (c : Dev nD) (i : grid0.Coords)
    (arg1 : Memref sig .tc .vmem S2056x1024 .f32) (harg1 : arg1.IsWhole)
    (arg2 : Memref sig .tc .vmem S2056x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .f32) (harg7 : arg7.IsWhole)
    (arg8 : Memref sig .tc .smem S4 .f32) (harg8 : arg8.IsWhole)
    (arg9 : Memref sig .tc .smem S4 .f32) (harg9 : arg9.IsWhole)
    (arg10 : Memref sig .tc .smem S4 .f32) (harg10 : arg10.IsWhole)
    (arg11 : Memref sig .tc .vmem S512x1024 .f32) (harg11 : arg11.IsWhole)
    (arg12 : Memref sig .tc .vmem S512x1024 .f32) (harg12 : arg12.IsWhole)
    (arg13 : Memref sig .tc .vmem S512x1024 .f32) (harg13 : arg13.IsWhole)
    (x g : Vec Ideal S2056x1024 .f32) (cs sn : Vec Ideal S512x1024 .f32) (wq wk wv : Vec Ideal S1024x1024 .f32) (tq tk tv : Vec Ideal S4 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 x g cs sn wq wk wv tq tk tv (ix2 r l)
      = mixed x g wv tv (row i r) l := by
  rw [val_stored]
  rw [← mix_at]
  pointwise [k0_pay7, k0_pay1]

end Cert.Proof.Kern
-- ==== Proof.Kern.Prepare.lean ====
/- The preparation region of the kernel: its three result arrays, from the arrays it reads. -/
module

public import proofs.«01_k».proof.Proof.Kern.Prep
public import Idealize.ShloMosaic.Lib.Pipeline.ValueKit

@[expose] public section

noncomputable section

namespace Cert.Proof.Kern

open Idealize.ShloMosaic Idealize.ShloMosaic.TcCoe Idealize.ShloMosaic.Tactic Cert.KernelIdeal Cert.KernelIdeal.Gen

/-- Where each window's block lies, and which block of rows a point works on. -/
theorem idx0 : ∀ t : Fin cfg0.N, win0_2.index t = ![t.val, 0] ∧ win0_3.index t = ![t.val, 0] ∧ win0_10.index t = ![t.val, 0]
    ∧ win0_11.index t = ![t.val, 0] ∧ win0_12.index t = ![t.val, 0] ∧ (grid0.coords t 0).val = t.val := by
  decide +kernel

/-- The windows that are whole arrays. -/
theorem whole0 : ∀ t : Fin cfg0.N, win0_0.index t = ![0, 0] ∧ win0_1.index t = ![0, 0] ∧ win0_4.index t = ![0, 0] ∧ win0_5.index t = ![0, 0]
    ∧ win0_6.index t = ![0, 0] ∧ win0_7.index t = ![0] ∧ win0_8.index t = ![0] ∧ win0_9.index t = ![0] := by
  decide +kernel

/-- The rotated mixing of the projected rows, as an array. -/
def turnedAll (x g : Vec Ideal S2056x1024 .f32) (cs sn : S2048x1024.Idx → EReal) (w : Vec Ideal S1024x1024 .f32) (t : Vec Ideal S4 .f32)
    (j : S2048x1024.Idx) : EReal :=
  turned (fun l => mixed x g w t (j 0) l) (cs (ix2 (j 0) (j 1))) (sn (ix2 (j 0) (j 1))) (j 1)

/-- The mixing of the projected rows, as an array. -/
def mixedAll (x g : Vec Ideal S2056x1024 .f32) (w : Vec Ideal S1024x1024 .f32) (t : Vec Ideal S4 .f32) (j : S2048x1024.Idx) : EReal :=
  mixed x g w t (j 0) (j 1)

variable (V : (c : Dev nD) → (b : Ref sig .tc) → Buf (Elt Ideal) ((c : Thread nD τ).loc b)) (c : Dev nD)

theorem block0_0 (t : Fin cfg0.N) : iblk0 V c 0 t = (V c main_v1 : S2056x1024.Idx → EReal) := by
  funext y
  show (V c main_v1 : S2056x1024.Idx → EReal) (((cfg0.win 0).blk t).view.emb y) = _
  congr 1
  funext a
  apply Fin.ext
  refine Pipeline.Window.rect_emb_val_of_index_zero win0_0 t a ?_ y
  rw [(whole0 t).1]
  fin_cases a <;> rfl

theorem block0_1 (t : Fin cfg0.N) : iblk0 V c 1 t = (V c main_v36 : S2056x1024.Idx → EReal) := by
  funext y
  show (V c main_v36 : S2056x1024.Idx → EReal) (((cfg0.win 1).blk t).view.emb y) = _
  congr 1
  funext a
  apply Fin.ext
  refine Pipeline.Window.rect_emb_val_of_index_zero win0_1 t a ?_ y
  rw [(whole0 t).2.1]
  fin_cases a <;> rfl

theorem block0_4 (t : Fin cfg0.N) : iblk0 V c 4 t = (V c main_v2 : S1024x1024.Idx → EReal) := by
  funext y
  show (V c main_v2 : S1024x1024.Idx → EReal) (((cfg0.win 4).blk t).view.emb y) = _
  congr 1
  funext a
  apply Fin.ext
  refine Pipeline.Window.rect_emb_val_of_index_zero win0_4 t a ?_ y
  rw [(whole0 t).2.2.1]
  fin_cases a <;> rfl

theorem block0_5 (t : Fin cfg0.N) : iblk0 V c 5 t = (V c main_v3 : S1024x1024.Idx → EReal) := by
  funext y
  show (V c main_v3 : S1024x1024.Idx → EReal) (((cfg0.win 5).blk t).view.emb y) = _
  congr 1
  funext a
  apply Fin.ext
  refine Pipeline.Window.rect_emb_val_of_index_zero win0_5 t a ?_ y
  rw [(whole0 t).2.2.2.1]
  fin_cases a <;> rfl

theorem block0_6 (t : Fin cfg0.N) : iblk0 V c 6 t = (V c main_v4 : S1024x1024.Idx → EReal) := by
  funext y
  show (V c main_v4 : S1024x1024.Idx → EReal) (((cfg0.win 6).blk t).view.emb y) = _
  congr 1
  funext a
  apply Fin.ext
  refine Pipeline.Window.rect_emb_val_of_index_zero win0_6 t a ?_ y
  rw [(whole0 t).2.2.2.2.1]
  fin_cases a <;> rfl

theorem block0_7 (t : Fin cfg0.N) : iblk0 V c 7 t = (V c main_arg5 : S4.Idx → EReal) := by
  funext y
  show (V c main_arg5 : S4.Idx → EReal) (((cfg0.win 7).blk t).view.emb y) = _
  congr 1
  funext a
  apply Fin.ext
  refine Pipeline.Window.rect_emb_val_of_index_zero win0_7 t a ?_ y
  rw [(whole0 t).2.2.2.2.2.1]
  fin_cases a <;> rfl

theorem block0_8 (t : Fin cfg0.N) : iblk0 V c 8 t = (V c main_arg6 : S4.Idx → EReal) := by
  funext y
  show (V c main_arg6 : S4.Idx → EReal) (((cfg0.win 8).blk t).view.emb y) = _
  congr 1
  funext a
  apply Fin.ext
  refine Pipeline.Window.rect_emb_val_of_index_zero win0_8 t a ?_ y
  rw [(whole0 t).2.2.2.2.2.2.1]
  fin_cases a <;> rfl

theorem block0_9 (t : Fin cfg0.N) : iblk0 V c 9 t = (V c main_arg7 : S4.Idx → EReal) := by
  funext y
  show (V c main_arg7 : S4.Idx → EReal) (((cfg0.win 9).blk t).view.emb y) = _
  congr 1
  funext a
  apply Fin.ext
  refine Pipeline.Window.rect_emb_val_of_index_zero win0_9 t a ?_ y
  rw [(whole0 t).2.2.2.2.2.2.2]
  fin_cases a <;> rfl

theorem rows0_2 (t : Fin cfg0.N) (r : Fin 512) (l : Fin 1024) (s : Fin 2048) (hs : s.val = t.val * 512 + r.val) :
    iblk0 V c 2 t (ix2 r l) = (V c main_v60 : S2048x1024.Idx → EReal) (ix2 s l) := by
  show (V c main_v60 : S2048x1024.Idx → EReal) (((cfg0.win 2).blk t).view.emb (ix2 r l)) = _
  congr 1
  funext a
  apply Fin.ext
  refine (Pipeline.Window.rect_emb_val win0_2 t _ a).trans ?_
  rw [(idx0 t).1]
  match a with
  | ⟨0, _⟩ => exact hs.symm
  | ⟨1, _⟩ => show 0 * 1024 + l.val = l.val; omega

theorem rows0_3 (t : Fin cfg0.N) (r : Fin 512) (l : Fin 1024) (s : Fin 2048) (hs : s.val = t.val * 512 + r.val) :
    iblk0 V c 3 t (ix2 r l) = (V c main_v66 : S2048x1024.Idx → EReal) (ix2 s l) := by
  show (V c main_v66 : S2048x1024.Idx → EReal) (((cfg0.win 3).blk t).view.emb (ix2 r l)) = _
  congr 1
  funext a
  apply Fin.ext
  refine (Pipeline.Window.rect_emb_val win0_3 t _ a).trans ?_
  rw [(idx0 t).2.1]
  match a with
  | ⟨0, _⟩ => exact hs.symm
  | ⟨1, _⟩ => show 0 * 1024 + l.val = l.val; omega

theorem row_eq (t : Fin cfg0.N) (r : Fin 512) (s : Fin 2048) (hs : s.val = t.val * 512 + r.val) : row (grid0.coords t) r = s :=
  Fin.ext (by
    show (grid0.coords t 0).val * 512 + r.val = s.val
    rw [(idx0 t).2.2.2.2.2, hs])

/-- What one point leaves in its block of the queries, at a place of the array. -/
theorem query_place (t : Fin cfg0.N) (y : S512x1024.Idx) (j : S2048x1024.Idx) (h0 : (j 0).val = t.val * 512 + (y 0).val)
    (h1 : (j 1).val = (y 1).val) :
    (outsAt0 V c t).1 y = turnedAll (V c main_v1) (V c main_v36) (V c main_v60) (V c main_v66) (V c main_v2) (V c main_arg5) j := by
  have hy : y = ix2 (y 0 : Fin 512) (y 1 : Fin 1024) := by
    funext a; fin_cases a <;> rfl
  have e1 : j 1 = (y 1 : Fin 1024) := Fin.ext h1
  unfold outsAt0
  dsimp only
  rw [hy]
  refine (query_block (y 0) (y 1) c (grid0.coords t) _ _ _ _ _ _ _ _ _ _ _ _ _ _ _ _ _ _ _ _ _ _ _ _ _ _ _ _ _ _ _ _ _ _ _ _).trans ?_
  rw [rows0_2 V c t (y 0) (y 1) (j 0) h0, rows0_3 V c t (y 0) (y 1) (j 0) h0, row_eq t (y 0) (j 0) h0, block0_0, block0_1, block0_4, block0_7]
  unfold turnedAll
  rw [e1]

theorem place0_10_0 (t : Fin cfg0.N) (y : S512x1024.Idx) :
    ((((cfg0.win 10).blk t).view.emb y : S2048x1024.Idx) 0).val = t.val * 512 + (y 0).val := by
  refine (Pipeline.Window.rect_emb_val win0_10 t y 0).trans ?_
  rw [(idx0 t).2.2.1]; rfl

theorem place0_10_1 (t : Fin cfg0.N) (y : S512x1024.Idx) : ((((cfg0.win 10).blk t).view.emb y : S2048x1024.Idx) 1).val = (y 1).val := by
  refine (Pipeline.Window.rect_emb_val win0_10 t y 1).trans ?_
  rw [(idx0 t).2.2.1]
  show 0 * 1024 + (y 1).val = (y 1).val
  omega

theorem query_array : (dat0 V c).arrAt 10 cfg0.N = turnedAll (V c main_v1) (V c main_v36) (V c main_v60) (V c main_v66) (V c main_v2) (V c main_arg5) := by
  refine (dat0 V c).arrAt_eq_of_covers 10 _ (by decide +kernel) fun t hf y => ?_
  rw [after0_10]
  blk_simp
  generalize hj : ((cfg0.win 10).blk t).view.emb y = j
  have h0 := place0_10_0 t y
  have h1 := place0_10_1 t y
  rw [hj] at h0 h1
  exact query_place V c t y j h0 h1

/-- What one point leaves in its block of the keys, at a place of the array. -/
theorem key_place (t : Fin cfg0.N) (y : S512x1024.Idx) (j : S2048x1024.Idx) (h0 : (j 0).val = t.val * 512 + (y 0).val)
    (h1 : (j 1).val = (y 1).val) :
    (outsAt0 V c t).2.1 y = turnedAll (V c main_v1) (V c main_v36) (V c main_v60) (V c main_v66) (V c main_v3) (V c main_arg6) j := by
  have hy : y = ix2 (y 0 : Fin 512) (y 1 : Fin 1024) := by
    funext a; fin_cases a <;> rfl
  have e1 : j 1 = (y 1 : Fin 1024) := Fin.ext h1
  unfold outsAt0
  dsimp only
  rw [hy]
  refine (key_block (y 0) (y 1) c (grid0.coords t) _ _ _ _ _ _ _ _ _ _ _ _ _ _ _ _ _ _ _ _ _ _ _ _ _ _ _ _ _ _ _ _ _ _ _ _).trans ?_
  rw [rows0_2 V c t (y 0) (y 1) (j 0) h0, rows0_3 V c t (y 0) (y 1) (j 0) h0, row_eq t (y 0) (j 0) h0, block0_0, block0_1, block0_5, block0_8]
  unfold turnedAll
  rw [e1]

theorem place0_11_0 (t : Fin cfg0.N) (y : S512x1024.Idx) :
    ((((cfg0.win 11).blk t).view.emb y : S2048x1024.Idx) 0).val = t.val * 512 + (y 0).val := by
  refine (Pipeline.Window.rect_emb_val win0_11 t y 0).trans ?_
  rw [(idx0 t).2.2.2.1]; rfl

theorem place0_11_1 (t : Fin cfg0.N) (y : S512x1024.Idx) : ((((cfg0.win 11).blk t).view.emb y : S2048x1024.Idx) 1).val = (y 1).val := by
  refine (Pipeline.Window.rect_emb_val win0_11 t y 1).trans ?_
  rw [(idx0 t).2.2.2.1]
  show 0 * 1024 + (y 1).val = (y 1).val
  omega

theorem key_array : (dat0 V c).arrAt 11 cfg0.N = turnedAll (V c main_v1) (V c main_v36) (V c main_v60) (V c main_v66) (V c main_v3) (V c main_arg6) := by
  refine (dat0 V c).arrAt_eq_of_covers 11 _ (by decide +kernel) fun t hf y => ?_
  rw [after0_11]
  blk_simp
  generalize hj : ((cfg0.win 11).blk t).view.emb y = j
  have h0 := place0_11_0 t y
  have h1 := place0_11_1 t y
  rw [hj] at h0 h1
  exact key_place V c t y j h0 h1

/-- What one point leaves in its block of the values, at a place of the array. -/
theorem val_place (t : Fin cfg0.N) (y : S512x1024.Idx) (j : S2048x1024.Idx) (h0 : (j 0).val = t.val * 512 + (y 0).val)
    (h1 : (j 1).val = (y 1).val) :
    (outsAt0 V c t).2.2 y = mixedAll (V c main_v1) (V c main_v36) (V c main_v4) (V c main_arg7) j := by
  have hy : y = ix2 (y 0 : Fin 512) (y 1 : Fin 1024) := by
    funext a; fin_cases a <;> rfl
  have e1 : j 1 = (y 1 : Fin 1024) := Fin.ext h1
  unfold outsAt0
  dsimp only
  rw [hy]
  refine (val_block (y 0) (y 1) c (grid0.coords t) _ _ _ _ _ _ _ _ _ _ _ _ _ _ _ _ _ _ _ _ _ _ _ _ _ _ _ _ _ _ _ _ _ _ _ _).trans ?_
  rw [row_eq t (y 0) (j 0) h0, block0_0, block0_1, block0_6, block0_9]
  unfold mixedAll
  rw [e1]

theorem place0_12_0 (t : Fin cfg0.N) (y : S512x1024.Idx) :
    ((((cfg0.win 12).blk t).view.emb y : S2048x1024.Idx) 0).val = t.val * 512 + (y 0).val := by
  refine (Pipeline.Window.rect_emb_val win0_12 t y 0).trans ?_
  rw [(idx0 t).2.2.2.2.1]; rfl

theorem place0_12_1 (t : Fin cfg0.N) (y : S512x1024.Idx) : ((((cfg0.win 12).blk t).view.emb y : S2048x1024.Idx) 1).val = (y 1).val := by
  refine (Pipeline.Window.rect_emb_val win0_12 t y 1).trans ?_
  rw [(idx0 t).2.2.2.2.1]
  show 0 * 1024 + (y 1).val = (y 1).val
  omega

theorem val_array : (dat0 V c).arrAt 12 cfg0.N = mixedAll (V c main_v1) (V c main_v36) (V c main_v4) (V c main_arg7) := by
  refine (dat0 V c).arrAt_eq_of_covers 12 _ (by decide +kernel) fun t hf y => ?_
  rw [after0_12]
  blk_simp
  generalize hj : ((cfg0.win 12).blk t).view.emb y = j
  have h0 := place0_12_0 t y
  have h1 := place0_12_1 t y
  rw [hj] at h0 h1
  exact val_place V c t y j h0 h1

end Cert.Proof.Kern
-- ==== Proof.Row.Bisect.lean ====
/- Halving an interval: what the kernel's 24 rounds of bisection find. Nothing here is about tensors. -/
module

public import Idealize.ShloMosaic.PureOps.Ideal
public import Mathlib.Tactic.Linarith
public import Mathlib.Tactic.FieldSimp
public import Mathlib.Tactic.Ring
public import Mathlib.Tactic.Positivity

@[expose] public section

noncomputable section

namespace Cert.Proof.Row

/-- One round: the interval `(lo, hi)` is cut in the middle and the half kept is the upper one where `c` holds of the middle. -/
def halve (c : EReal → Prop) [DecidablePred c] (half : EReal) (p : EReal × EReal) : EReal × EReal :=
  (if c (half * (p.1 + p.2)) then half * (p.1 + p.2) else p.1,
   if c (half * (p.1 + p.2)) then p.2 else half * (p.1 + p.2))

/-- After `n` rounds from a real interval, where `c` holds exactly below `a`: the interval still holds `a`, and it is `2 ^ n`
    times shorter. -/
theorem halve_iterate (c : EReal → Prop) [DecidablePred c] {half : EReal} (hhalf : half = ((1 / 2 : ℝ) : EReal)) {L H a : ℝ}
    (hLa : L ≤ a) (haH : a ≤ H) (hc : ∀ x : ℝ, L ≤ x → x ≤ H → (c (x : EReal) ↔ x ≤ a)) (n : ℕ) :
    ∃ l h : ℝ, (halve c half)^[n] ((L : EReal), (H : EReal)) = ((l : EReal), (h : EReal)) ∧ L ≤ l ∧ h ≤ H ∧ l ≤ a ∧ a ≤ h
      ∧ h - l = (H - L) / 2 ^ n := by
  subst hhalf
  induction n with
  | zero => exact ⟨L, H, rfl, le_rfl, le_rfl, hLa, haH, by simp⟩
  | succ n ih =>
    obtain ⟨l, h, e, h1, h2, h3, h4, h5⟩ := ih
    have hm : ((1 / 2 : ℝ) : EReal) * ((l : EReal) + (h : EReal)) = (((l + h) / 2 : ℝ) : EReal) := by
      rw [← EReal.coe_add, ← EReal.coe_mul]; congr 1; ring
    have hp : (H - L) / 2 ^ (n + 1) = (h - l) / 2 := by rw [h5, pow_succ]; field_simp
    rw [Function.iterate_succ_apply', e]
    unfold halve
    simp only [hm]
    by_cases hx : c (((l + h) / 2 : ℝ) : EReal)
    · refine ⟨(l + h) / 2, h, by simp only [if_pos hx], by linarith, h2, (hc _ (by linarith) (by linarith)).1 hx, h4, ?_⟩
      rw [hp]; ring
    · have : ¬ (l + h) / 2 ≤ a := fun q => hx ((hc _ (by linarith) (by linarith)).2 q)
      refine ⟨l, (l + h) / 2, by simp only [if_neg hx], h1, by linarith, h3, by linarith, ?_⟩
      rw [hp]; ring

end Cert.Proof.Row

end
-- ==== Proof.Row.Select.lean ====
/- One row of scores: the columns the kernel keeps by its threshold are the columns the sort puts first. -/
module

public import proofs.«01_k».proof.Proof.Row.Bisect
public import Idealize.ShloMosaic.PureOps.Ideal

@[expose] public section

noncomputable section

namespace Cert.Proof.Row

open Idealize.ShloMosaic Finset

variable {n : ℕ}

/-- A row's scores with `z` at the columns after the row's own place `t`. -/
def masked (s : Fin n → EReal) (t : ℕ) (z : EReal) (j : Fin n) : EReal := if j.val ≤ t then s j else z

/-- How many columns score at least `x`. -/
def count (s : Fin n → EReal) (x : EReal) : ℕ := (univ.filter fun j => x ≤ s j).card

/-- Column `j` is one of the first `K` of the order `π`. -/
def Top (π : Fin n → Fin n) (K : ℕ) (j : Fin n) : Prop := ∃ i : Fin n, i.val < K ∧ π i = j

/-- In a sorted row, at least `i + 1` columns score `x` or more exactly when place `i`'s score is at least `x`. -/
theorem lt_count_iff {s : Fin n → EReal} {π : Fin n → Fin n} (hπ : Function.Bijective π)
    (hs : ∀ i j : Fin n, i < j → s (π j) ≤ s (π i)) (i : Fin n) (x : EReal) : i.val + 1 ≤ count s x ↔ x ≤ s (π i) := by
  constructor
  · intro h
    by_contra hx
    have hsub : (univ.filter fun j => x ≤ s j) ⊆ (Iio i).image π := by
      intro j hj
      obtain ⟨k, rfl⟩ := hπ.2 j
      refine mem_image.2 ⟨k, mem_Iio.2 ?_, rfl⟩
      by_contra hk
      rcases eq_or_lt_of_le (not_lt.1 hk) with rfl | hlt
      · exact hx (mem_filter.1 hj).2
      · exact hx ((mem_filter.1 hj).2.trans (hs i k hlt))
    have := (card_le_card hsub).trans card_image_le
    rw [Fin.card_Iio] at this
    unfold count at h
    omega
  · intro h
    have hsub : (Iic i).image π ⊆ univ.filter fun j => x ≤ s j := by
      intro j hj
      obtain ⟨k, hk, rfl⟩ := mem_image.1 hj
      refine mem_filter.2 ⟨mem_univ _, ?_⟩
      rcases eq_or_lt_of_le (mem_Iic.1 hk) with rfl | hlt
      · exact h
      · exact h.trans (hs k i hlt)
    have := card_le_card hsub
    rw [card_image_of_injective _ hπ.1, Fin.card_Iic] at this
    exact this

/-- The largest entry of a row, from `⊥`. -/
def top (s : Fin n → EReal) : EReal := univ.fold max ⊥ s
/-- The smallest entry of a row, from `⊤`. -/
def bot (s : Fin n → EReal) : EReal := univ.fold min ⊤ s

theorem le_top' (s : Fin n → EReal) (j : Fin n) : s j ≤ top s := (fold_max_le _).1 (le_refl (top s)) |>.2 j (mem_univ j)
theorem bot_le' (s : Fin n → EReal) (j : Fin n) : bot s ≤ s j := (le_fold_min _).1 (le_refl (bot s)) |>.2 j (mem_univ j)
theorem top_le {s : Fin n → EReal} {x : EReal} (h : ∀ j, s j ≤ x) : top s ≤ x := (fold_max_le _).2 ⟨bot_le, fun j _ => h j⟩
theorem le_bot {s : Fin n → EReal} {x : EReal} (h : ∀ j, x ≤ s j) : x ≤ bot s := (le_fold_min _).2 ⟨le_top, fun j _ => h j⟩

/-- A sorted row's largest entry is its first. -/
theorem top_eq_first {s : Fin n → EReal} {π : Fin n → Fin n} (hπ : Function.Bijective π)
    (hs : ∀ i j : Fin n, i < j → s (π j) ≤ s (π i)) (i0 : Fin n) (h0 : i0.val = 0) : top s = s (π i0) := by
  refine le_antisymm (top_le fun j => ?_) (le_top' s _)
  obtain ⟨k, rfl⟩ := hπ.2 j
  rcases eq_or_lt_of_le (show i0 ≤ k from Fin.le_def.2 (by omega)) with rfl | hlt
  · exact le_rfl
  · exact hs _ _ hlt

/-- The place of the last kept and of the first dropped entry, `K - 1` and `K`, are apart by more than `c` times the row's range. -/
def Apart (s : Fin n → EReal) (t : ℕ) (π : Fin n → Fin n) (iK jK : Fin n) (c : EReal) : Prop :=
  (top (masked s t ⊥) - bot (masked s t ⊤)) * c < masked s t ⊥ (π iK) - masked s t ⊥ (π jK)

section
variable {s : Fin n → EReal} {t : Fin n} {neg : EReal} {π : Fin n → Fin n}

/-- Every valid score is above `neg`, where the smallest is. -/
theorem valid_gt (hlow : neg < bot (masked s t ⊤)) {j : Fin n} (hj : j.val ≤ t) : neg < s j :=
  hlow.trans_le (by simpa [masked, hj] using bot_le' (masked s t ⊤) j)

/-- The row masked by `neg` and the row masked by `⊥` have the same largest entry. -/
theorem top_masked (hlow : neg < bot (masked s t ⊤)) : top (masked s t neg) = top (masked s t ⊥) := by
  have ht := le_top' (masked s t ⊥) t
  simp only [masked, le_refl, if_true] at ht
  refine le_antisymm (top_le fun j => ?_) (top_le fun j => ?_)
  · by_cases hj : j.val ≤ t
    · have := le_top' (masked s t ⊥) j
      simpa [masked, hj] using this
    · simpa [masked, hj] using (valid_gt hlow (le_refl t.val)).le.trans ht
  · by_cases hj : j.val ≤ t
    · have := le_top' (masked s t neg) j
      simpa [masked, hj] using this
    · simp [masked, hj]

/-- The smallest valid entry does not see what the other columns hold. -/
theorem bot_masked : (bot fun j : Fin n => if j.val ≤ t then masked s t neg j else ⊤) = bot (masked s t ⊤) := by
  congr 1; funext j; unfold masked; split <;> rfl

/-- Where a row has at most `K` valid columns, all of them are among the first `K`. -/
theorem top_of_short (hπ : Function.Bijective π) (hs : ∀ i j : Fin n, i < j → masked s t ⊥ (π j) ≤ masked s t ⊥ (π i))
    (hlow : neg < bot (masked s t ⊤)) {K : ℕ} (ht : t.val < K) {j : Fin n} (hj : j.val ≤ t) : Top π K j := by
  obtain ⟨i, rfl⟩ := hπ.2 j
  refine ⟨i, ?_, rfl⟩
  by_contra hi
  have hx : i.val + 1 ≤ count (masked s t ⊥) (masked s t ⊥ (π i)) := (lt_count_iff hπ hs i _).2 le_rfl
  have hpos : ⊥ < masked s t ⊥ (π i) := by
    simp only [masked, hj, if_true]; exact bot_le.trans_lt (valid_gt hlow hj)
  have hsub : (univ.filter fun k => masked s t ⊥ (π i) ≤ masked s t ⊥ k) ⊆ Iic t := by
    intro k hk
    have := hpos.trans_le (mem_filter.1 hk).2
    by_contra hkt
    have hk' : ¬ k.val ≤ t.val := fun q => hkt (mem_Iic.2 (Fin.le_def.2 q))
    simp [masked, hk'] at this
  have := card_le_card hsub
  rw [Fin.card_Iic] at this
  unfold count at hx
  omega

/-- At least `i + 1` valid columns: place `i`'s score is at least the smallest valid one. -/
theorem bot_le_place (hπ : Function.Bijective π) (hs : ∀ i j : Fin n, i < j → masked s t ⊥ (π j) ≤ masked s t ⊥ (π i))
    {i : Fin n} (hi : i.val ≤ t) : bot (masked s t ⊤) ≤ masked s t ⊥ (π i) := by
  refine (lt_count_iff hπ hs i _).1 ?_
  have hsub : Iic t ⊆ univ.filter fun k => bot (masked s t ⊤) ≤ masked s t ⊥ k := by
    intro k hk
    have hk' : k.val ≤ t.val := Fin.le_def.1 (mem_Iic.1 hk)
    refine mem_filter.2 ⟨mem_univ _, ?_⟩
    have := bot_le' (masked s t ⊤) k
    simpa [masked, hk'] using this
  have := card_le_card hsub
  rw [Fin.card_Iic] at this
  unfold count
  omega

/-- On a separated row with more than `K` valid columns the four numbers of the condition are reals, in order. -/
theorem apart_real (hπ : Function.Bijective π) (hs : ∀ i j : Fin n, i < j → masked s t ⊥ (π j) ≤ masked s t ⊥ (π i))
    (hlow : neg < bot (masked s t ⊤)) {iK jK : Fin n} (hij : iK < jK) (hj : jK.val ≤ t) {c : ℝ} (hc : 0 < c)
    (hap : Apart s t π iK jK c) :
    ∃ L H a b : ℝ, bot (masked s t ⊤) = L ∧ top (masked s t ⊥) = H ∧ masked s t ⊥ (π iK) = a ∧ masked s t ⊥ (π jK) = b
      ∧ L ≤ b ∧ b ≤ a ∧ a ≤ H ∧ (H - L) * c < a - b := by
  unfold Apart at hap
  have hLb := bot_le_place hπ hs hj
  have hba := hs _ _ hij
  have haH := le_top' (masked s t ⊥) (π iK)
  have hL0 : bot (masked s t ⊤) ≠ ⊥ := (bot_le.trans_lt hlow).ne'
  generalize bot (masked s t ⊤) = L at *
  generalize top (masked s t ⊥) = H at *
  generalize masked s t ⊥ (π iK) = a at *
  generalize masked s t ⊥ (π jK) = b at *
  have hHt : H ≠ ⊤ := by
    rintro rfl
    by_cases hL : L = ⊤
    · subst hL
      obtain rfl := top_le_iff.1 hLb
      obtain rfl := top_le_iff.1 hba
      simp at hap
    · rw [EReal.top_sub hL, EReal.top_mul_coe_of_pos hc] at hap
      exact not_top_lt hap
  lift L to ℝ using ⟨fun h => hHt (top_le_iff.1 (h ▸ (hLb.trans (hba.trans haH)))), hL0⟩
  have hb0 : b ≠ ⊥ := fun h => hL0 (le_bot_iff.1 (h ▸ hLb))
  have ha0 : a ≠ ⊥ := fun h => hb0 (le_bot_iff.1 (h ▸ hba))
  have hH0 : H ≠ ⊥ := fun h => ha0 (le_bot_iff.1 (h ▸ haH))
  lift H to ℝ using ⟨hHt, hH0⟩
  lift a to ℝ using ⟨fun h => hHt (top_le_iff.1 (h ▸ haH)), ha0⟩
  lift b to ℝ using ⟨fun h => EReal.coe_ne_top a (top_le_iff.1 (h ▸ hba)), hb0⟩
  refine ⟨L, H, a, b, rfl, rfl, rfl, rfl, EReal.coe_le_coe_iff.1 hLb, EReal.coe_le_coe_iff.1 hba, EReal.coe_le_coe_iff.1 haH, ?_⟩
  rw [← EReal.coe_sub, ← EReal.coe_sub, ← EReal.coe_mul] at hap
  exact EReal.coe_lt_coe_iff.1 hap

/-- The kernel's threshold after its rounds of bisection, on a row of more than `K` valid columns: it separates place `K - 1`
    from place `K`. -/
theorem bisected (hπ : Function.Bijective π) (hs : ∀ i j : Fin n, i < j → masked s t ⊥ (π j) ≤ masked s t ⊥ (π i))
    (hlow : neg < bot (masked s t ⊤)) {iK jK : Fin n} (hij : jK.val = iK.val + 1) (hj : jK.val ≤ t) {half : EReal}
    (hhalf : half = ((1 / 2 : ℝ) : EReal)) (m : ℕ) (hap : Apart s t π iK jK (((2 ^ m)⁻¹ : ℝ) : EReal)) :
    let lo := ((halve (fun x => jK.val ≤ count (masked s t neg) x) half)^[m] (bot (masked s t ⊤), top (masked s t ⊥))).1
    neg < lo ∧ masked s t ⊥ (π jK) < lo ∧ lo ≤ masked s t ⊥ (π iK) := by
  obtain ⟨L, H, a, b, eL, eH, ea, eb, h1, h2, h3, h4⟩ :=
    apart_real hπ hs hlow (Fin.lt_def.2 (by omega)) hj (by positivity) hap
  have hneg : neg < (L : EReal) := eL ▸ hlow
  have hc : ∀ x : ℝ, L ≤ x → x ≤ H → (jK.val ≤ count (masked s t neg) (x : EReal) ↔ x ≤ a) := by
    intro x hx _
    have hnx : neg < (x : EReal) := hneg.trans_le (EReal.coe_le_coe_iff.2 hx)
    have e : count (masked s t neg) (x : EReal) = count (masked s t ⊥) (x : EReal) := by
      unfold count
      congr 1
      refine filter_congr fun j _ => ?_
      unfold masked
      split
      · exact Iff.rfl
      · simp [hnx]
    rw [e, hij, lt_count_iff hπ hs, ea, EReal.coe_le_coe_iff]
  obtain ⟨l, h, e, g1, g2, g3, g4, g5⟩ := halve_iterate (fun x => jK.val ≤ count (masked s t neg) x) hhalf (h1.trans h2) h3 hc m
  intro lo
  have hlo : lo = (l : EReal) := by show Prod.fst _ = _; rw [eL, eH, e]
  rw [hlo, ea, eb]
  refine ⟨hneg.trans_le (EReal.coe_le_coe_iff.2 g1), EReal.coe_lt_coe_iff.2 ?_, EReal.coe_le_coe_iff.2 g3⟩
  rw [div_eq_mul_inv] at g5
  linarith

end

end Cert.Proof.Row

end
-- ==== Proof.Row.Weights.lean ====
/- One row of scores: the kernel's unnormalised weights and the reference's are the same, on a separated row. -/
module

public import proofs.«01_k».proof.Proof.Row.Select

@[expose] public section

noncomputable section

namespace Cert.Proof.Row

open Idealize.ShloMosaic Finset

variable {n : ℕ}

/-- The kernel's threshold of row `t`: its smallest valid score where it has at most `K` of them, else what `m` rounds of
    bisection leave. -/
def threshold (s : Fin n → EReal) (t K m : ℕ) (neg half : EReal) : EReal :=
  if t + 1 ≤ K then bot (masked s t ⊤)
  else ((halve (fun x => K ≤ count (masked s t neg) x) half)^[m] (bot (masked s t ⊤), top (masked s t neg))).1

/-- The kernel's weight of column `j`. -/
def kernelWeight (s : Fin n → EReal) (t K m : ℕ) (neg half : EReal) (j : Fin n) : EReal :=
  if threshold s t K m neg half ≤ masked s t neg j then Ideal.exp (masked s t neg j - top (masked s t neg)) else 0

open Classical in
/-- What the reference's scatter leaves of the row: the scores of the first `K` columns of the order `π`, `⊥` elsewhere. -/
def kept (s : Fin n → EReal) (t K : ℕ) (π : Fin n → Fin n) (j : Fin n) : EReal := if Top π K j then masked s t ⊥ j else ⊥

/-- The reference's weight of column `j`. -/
def refWeight (s : Fin n → EReal) (t K : ℕ) (π : Fin n → Fin n) (j : Fin n) : EReal :=
  Ideal.exp (kept s t K π j - top (kept s t K π))

variable {s : Fin n → EReal} {t : Fin n} {neg : EReal} {π : Fin n → Fin n}

/-- What is kept has the whole row's largest entry. -/
theorem top_kept (hπ : Function.Bijective π) (hs : ∀ i j : Fin n, i < j → masked s t ⊥ (π j) ≤ masked s t ⊥ (π i)) {K : ℕ}
    (hK : 0 < K) : top (kept s t K π) = top (masked s t ⊥) := by
  refine le_antisymm (top_le fun j => ?_) ?_
  · unfold kept
    split
    · exact le_top' _ j
    · exact bot_le
  · rw [top_eq_first hπ hs ⟨0, by have := t.isLt; omega⟩ rfl]
    refine le_trans ?_ (le_top' _ (π ⟨0, by have := t.isLt; omega⟩))
    unfold kept
    rw [if_pos ⟨_, hK, rfl⟩]

/-- On a separated row the kernel's threshold keeps the valid columns among the first `K`, and no other. -/
theorem threshold_le_iff (hπ : Function.Bijective π) (hs : ∀ i j : Fin n, i < j → masked s t ⊥ (π j) ≤ masked s t ⊥ (π i))
    (hlow : neg < bot (masked s t ⊤)) {iK jK : Fin n} (hij : jK.val = iK.val + 1) {half : EReal}
    (hhalf : half = ((1 / 2 : ℝ) : EReal)) (m : ℕ) (hap : t.val < jK.val ∨ Apart s t π iK jK (((2 ^ m)⁻¹ : ℝ) : EReal))
    (j : Fin n) : threshold s t jK m neg half ≤ masked s t neg j ↔ j.val ≤ t.val ∧ Top π jK j := by
  unfold threshold
  by_cases ht : t.val < jK.val
  · rw [if_pos (show t.val + 1 ≤ jK.val by omega)]
    constructor
    · intro h
      by_cases hj : j.val ≤ t.val
      · exact ⟨hj, top_of_short hπ hs hlow ht hj⟩
      · simp only [masked, hj, if_false] at h
        exact absurd hlow (not_lt.2 h)
    · rintro ⟨hj, -⟩
      have := bot_le' (masked s t ⊤) j
      simpa [masked, hj] using this
  · rw [if_neg (by omega), top_masked hlow]
    obtain ⟨g1, g2, g3⟩ := bisected hπ hs hlow hij (not_lt.1 ht) hhalf m (hap.resolve_left ht)
    generalize ((halve (fun x => jK.val ≤ count (masked s t neg) x) half)^[m] (bot (masked s t ⊤), top (masked s t ⊥))).1 = lo at *
    by_cases hj : j.val ≤ t.val
    · have e : masked s t neg j = masked s t ⊥ j := by simp [masked, hj]
      rw [e]
      obtain ⟨i, rfl⟩ := hπ.2 j
      constructor
      · intro h
        refine ⟨hj, i, ?_, rfl⟩
        by_contra hi
        rcases eq_or_lt_of_le (show jK ≤ i from Fin.le_def.2 (not_lt.1 hi)) with rfl | hlt
        · exact absurd g2 (not_lt.2 h)
        · exact absurd (g2.trans_le h) (not_lt.2 (hs _ _ hlt))
      · rintro ⟨-, k, hk, e'⟩
        obtain rfl := hπ.1 e'
        rcases eq_or_lt_of_le (show k ≤ iK from Fin.le_def.2 (by omega)) with rfl | hlt
        · exact g3
        · exact g3.trans (hs _ _ hlt)
    · constructor
      · intro h
        simp only [masked, hj, if_false] at h
        exact absurd g1 (not_lt.2 h)
      · exact fun h => absurd h.1 hj

/-- On a separated row the two programs weigh every column alike. -/
theorem kernelWeight_eq (hπ : Function.Bijective π) (hs : ∀ i j : Fin n, i < j → masked s t ⊥ (π j) ≤ masked s t ⊥ (π i))
    (hlow : neg < bot (masked s t ⊤)) {iK jK : Fin n} (hij : jK.val = iK.val + 1) {half : EReal}
    (hhalf : half = ((1 / 2 : ℝ) : EReal)) (m : ℕ) (hap : t.val < jK.val ∨ Apart s t π iK jK (((2 ^ m)⁻¹ : ℝ) : EReal))
    (j : Fin n) : kernelWeight s t jK m neg half j = refWeight s t jK π j := by
  unfold kernelWeight refWeight
  rw [top_kept hπ hs (by omega), top_masked hlow]
  by_cases h : j.val ≤ t.val ∧ Top π jK j
  · rw [if_pos ((threshold_le_iff hπ hs hlow hij hhalf m hap j).2 h)]
    unfold kept
    rw [if_pos h.2]
    simp [masked, h.1]
  · rw [if_neg fun q => h ((threshold_le_iff hπ hs hlow hij hhalf m hap j).1 q)]
    have e : kept s t jK π j = ⊥ := by
      unfold kept
      split
      · next hT =>
        have hj : ¬ j.val ≤ t.val := fun q => h ⟨q, hT⟩
        simp [masked, hj]
      · rfl
    rw [e, EReal.bot_sub]
    rfl

end Cert.Proof.Row

end
-- ==== Proof.Spec.Words.lean ====
module

public import Idealize.ShloMosaic.Lib.WordCmp
public import Idealize.ShloMosaic.PureOps.Ideal.Laws
public import Mathlib.Tactic.Linarith

/-!
# The words and literals of the two programs

The comparisons of positions, made on 32-bit words, and the numbers that the literals stand for.
-/

@[expose] public section

noncomputable section

namespace Cert.Proof.Spec

open Idealize.ShloMosaic

/-- The literal of all ones in the exponent, negative. -/
theorem lit_bot : Ideal.ofBits .f32 4286578688#32 = ⊥ := by simp [Ideal.ofBits, Ideal.ieee]

/-- The literal of all ones in the exponent, positive. -/
theorem lit_top : Ideal.ofBits .f32 2139095040#32 = ⊤ := by simp [Ideal.ofBits, Ideal.ieee]

/-- The literal one half. -/
theorem lit_half : Ideal.ofBits .f32 1056964608#32 = ((1 / 2 : ℝ) : EReal) := by
  simp [Ideal.ofBits, Ideal.ieee]
  rw [← EReal.coe_mul]
  norm_num

/-- The literal two to the power of minus 24. -/
theorem lit_step : Ideal.ofBits .f32 864026624#32 = (((2 ^ 24)⁻¹ : ℝ) : EReal) := by
  simp [Ideal.ofBits, Ideal.ieee]
  rw [← EReal.coe_mul]
  norm_num

/-- The literal 204. -/
theorem lit_204 : Ideal.ofBits .f32 1129054208#32 = ((204 : ℝ) : EReal) := by
  simp [Ideal.ofBits, Ideal.ieee]
  rw [← EReal.coe_mul]
  norm_num

/-- The literal one. -/
theorem lit_one : Ideal.ofBits .f32 1065353216#32 = 1 := by
  simp [Ideal.ofBits, Ideal.ieee]
  rw [← EReal.coe_mul]
  norm_num

/-- Dividing by one. -/
theorem div_one (x : EReal) : Ideal.div x 1 = x := by
  unfold Ideal.div
  rw [if_neg one_ne_zero]
  simp

theorem ofBool_one {p : Prop} [Decidable p] : BitVec.ofBool (decide p) = 1#1 ↔ p :=
  WordCmp.ofBool_decide_eq_one_iff p

/-- The lower triangle, as the reference makes it. -/
theorem lower {α : Type} (s j : Fin 2048) (a b : α) :
    Scalar.select (Scalar.select (IntOp.cmpi .sge (IntOp.addi (BitVec.ofNat 32 s.val) 0#32) (BitVec.ofNat 32 j.val)) 1#1 0#1) a b
      = if j.val ≤ s.val then a else b := by
  have h0 : (0#32 : BitVec 32) = BitVec.ofNat 32 0 := rfl
  rw [h0, WordCmp.addi_ofNat, WordCmp.cmpi_sge_ofNat (by omega) (by omega), WordCmp.select_decide]
  simp only [Nat.add_zero]
  by_cases h : j.val ≤ s.val
  · rw [if_pos h, if_pos h]; rfl
  · rw [if_neg h, if_neg h]; rfl

end Cert.Proof.Spec

end
-- ==== Proof.Kern.Threshold.lean ====
/- The attention body of the kernel, one row of one block: its masked scores, their largest and smallest, and the 24 rounds
   of bisection, said with the row's mathematics (`Row.masked`, `Row.top`, `Row.bot`, `Row.halve`). -/
module

public import proofs.«01_k».proof.Proof.Gen.KernelIdeal.Skeleton
public import proofs.«01_k».proof.Proof.Row.Weights
public import proofs.«01_k».proof.Proof.Spec.Words
public import Idealize.ShloMosaic.Lib.Pointwise
public import Idealize.ShloMosaic.Lib.Exec.Context

@[expose] public section

noncomputable section

namespace Cert.Proof.Kern

open Idealize.ShloMosaic Idealize.ShloMosaic.TcCoe Idealize.ShloMosaic.WordCmp Idealize.ShloMosaic.Tactic Cert.KernelIdeal Cert.KernelIdeal.Gen Row

/-- The kernel's stand-in for a masked score: the smallest finite number. -/
abbrev neg : EReal := Ideal.ofBits .f32 4286578687#32

/-- The factor of a bisection's middle: one half. -/
abbrev half : EReal := Ideal.ofBits .f32 1056964608#32

/-- Row `r` of block `i` is row `256 i + r` of the sequence. -/
def line (i : grid1.Coords) (r : Fin 256) : Fin 2048 :=
  ⟨(i 1).val * 256 + r.val, by have h : (i 1).val < 8 := (i 1).isLt; omega⟩

/-- The scaled product of row `r` of the block of queries and row `j` of the keys. -/
def dots (q : Vec Ideal S1x256x64 .f32) (k : Vec Ideal S1x2048x64 .f32) (r : Fin 256) (j : Fin 2048) : EReal :=
  (∑ e : Fin 64, q (ix3 0 r e) * k (ix3 0 j e)) * Ideal.ofBits .f32 1040187392#32

/-- The comparison of a column with the row's own position. -/
theorem upto (i : grid1.Coords) (r : Fin 256) (l : Fin 2048) :
    IntOp.cmpi .sle (BitVec.ofNat 32 l.val) (IntOp.addi (Scalar.muli (BitVec.ofNat 32 (i 1).val) 256#32) (BitVec.ofNat 32 r.val))
      = BitVec.ofBool (decide (l.val ≤ (line i r).val)) := by
  have h1 := (line i r).isLt
  have e : IntOp.addi (Scalar.muli (BitVec.ofNat 32 (i 1).val) 256#32) (BitVec.ofNat 32 r.val) = BitVec.ofNat 32 (line i r).val := by
    rw [show (256#32 : BitVec 32) = BitVec.ofNat 32 256 from rfl, show Scalar.muli (BitVec.ofNat 32 (i 1).val) (BitVec.ofNat 32 256)
      = IntOp.muli (BitVec.ofNat 32 (i 1).val) (BitVec.ofNat 32 256) from rfl, muli_ofNat, addi_ofNat]
    rfl
  rw [e, cmpi_sle_ofNat (by have := l.isLt; omega) (by omega)]

variable (i : grid1.Coords) (q : Vec Ideal S1x256x64 .f32) (k : Vec Ideal S1x2048x64 .f32) (r : Fin 256)

theorem mask_at (l : Fin 2048) : k1_pay2 i (ix2 r l) = BitVec.ofBool (decide (l.val ≤ (line i r).val)) := by
  refine Eq.trans ?_ (upto i r l)
  pointwise [k1_pay2]

theorem score_at (l : Fin 2048) : k1_pay3 i q k (ix2 r l) = masked (dots q k r) (line i r).val neg l := by
  have e : k1_pay3 i q k (ix2 r l) = Scalar.select (k1_pay2 i (ix2 r l)) (dots q k r l) neg := by
    unfold dots
    pointwise [k1_pay3]
  rw [e, mask_at, select_ofBool]
  simp only [decide_eq_true_eq, masked]

/-- The row's largest masked score. -/
theorem top_at : k1_pay4 i q k (ix2 r 0) = top (masked (dots q k r) (line i r).val neg) := by
  have e : k1_pay4 i q k (ix2 r 0) = Finset.univ.fold max (Ideal.ofBits .f32 4286578688#32) (fun x => k1_pay3 i q k (ix2 r x)) := by
    pointwise [k1_pay4]
  rw [e, Spec.lit_bot]
  simp only [score_at]
  rfl

/-- The row's smallest score among those not masked. -/
theorem bot_at : k1_pay5 i q k (ix2 r 0) = bot (masked (dots q k r) (line i r).val ⊤) := by
  have e : k1_pay5 i q k (ix2 r 0) = Finset.univ.fold min (Ideal.ofBits .f32 2139095040#32)
      (fun x => Scalar.select (k1_pay2 i (ix2 r x)) (k1_pay3 i q k (ix2 r x)) (Ideal.ofBits .f32 2139095040#32)) := by
    pointwise [k1_pay5]
  rw [e, Spec.lit_top, ← bot_masked (neg := neg)]
  simp only [score_at, mask_at, select_ofBool, decide_eq_true_eq]
  rfl

/-- A sum of reals is the sum of the reals. -/
theorem real_sum {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- The number of scores a middle does not exceed, as the kernel sums it. -/
theorem count_sum (s : Fin 2048 → EReal) (x : EReal) :
    (∑ j, FloatOps.sitofp (F := Ideal) .f32 (BitVec.setWidth 32 (BitVec.ofBool (decide (x ≤ s j)))) : EReal) = ((count s x : ℝ) : EReal) := by
  have e : ∀ j, (FloatOps.sitofp (F := Ideal) .f32 (BitVec.setWidth 32 (BitVec.ofBool (decide (x ≤ s j)))) : EReal)
      = (((if x ≤ s j then 1 else 0 : ℝ)) : EReal) := by
    intro j
    show (((BitVec.setWidth 32 (BitVec.ofBool (decide (x ≤ s j)))).toInt : ℝ) : EReal) = _
    by_cases h : x ≤ s j <;> simp [h]
  simp only [e]
  rw [real_sum]
  simp [Row.count, Finset.sum_boole]

/-- The test of a round: at least 204 scores reach the middle. -/
theorem test_at (a b : FVec Ideal S256x1 .f32) : k1_pay7 i q k a b (ix2 r 0)
    = BitVec.ofBool (decide (204 ≤ count (masked (dots q k r) (line i r).val neg) (half * (a (ix2 r 0) + b (ix2 r 0))))) := by
  have e : k1_pay7 i q k a b (ix2 r 0) = BitVec.ofBool (decide (Ideal.ofBits .f32 1129054208#32
      ≤ ∑ x, FloatOps.sitofp (F := Ideal) .f32 (BitVec.setWidth 32 (BitVec.ofBool (decide (half * (a (ix2 r 0) + b (ix2 r 0)) ≤ k1_pay3 i q k (ix2 r x))))))) := by
    pointwise [k1_pay7, k1_pay6]
  rw [e]
  simp only [score_at]
  rw [count_sum, Spec.lit_204]
  congr 2
  rw [EReal.coe_le_coe_iff]
  exact propext (by exact_mod_cast Iff.rfl)

/-- One round of the loop, at row `r`. -/
theorem round_at (a b : FVec Ideal S256x1 .f32) :
    (k1_pay8 i q k a b (ix2 r 0), k1_pay9 i q k a b (ix2 r 0))
      = halve (fun x => 204 ≤ count (masked (dots q k r) (line i r).val neg) x) half (a (ix2 r 0), b (ix2 r 0)) := by
  have m : k1_pay6 a b (ix2 r 0) = half * (a (ix2 r 0) + b (ix2 r 0)) := by pointwise [k1_pay6]
  have e8 : k1_pay8 i q k a b (ix2 r 0) = Scalar.select (k1_pay7 i q k a b (ix2 r 0)) (k1_pay6 a b (ix2 r 0)) (a (ix2 r 0)) := by
    pointwise [k1_pay8]
  have e9 : k1_pay9 i q k a b (ix2 r 0) = Scalar.select (k1_pay7 i q k a b (ix2 r 0)) (b (ix2 r 0)) (k1_pay6 a b (ix2 r 0)) := by
    pointwise [k1_pay9]
  rw [e8, e9, m, test_at, select_ofBool, select_ofBool]
  simp only [decide_eq_true_eq, halve]

/-- A loop whose rounds are all one function is its iterate. -/
theorem fold_const {σ : Type} (n : ℕ) (f : σ → σ) (x : σ) : Scf.fold (fun (_ : Fin n) p => f p) x = f^[n] x := by
  rw [Scf.fold_eq]
  have h : ∀ (l : List (Fin n)) (y : σ), l.foldl (fun acc _ => f acc) y = f^[l.length] y := by
    intro l
    induction l with
    | nil => intro y; rfl
    | cons a l ih => intro y; simp only [List.foldl_cons, List.length_cons, Function.iterate_succ_apply, ih]
  rw [h, List.length_finRange]

/-- What the loop leaves at row `r`: 24 halvings of the interval from the smallest to the largest score. -/
theorem loop_at : (Scf.fold (fun (_ : Fin k1_t1_loop.trips) p => (k1_pay8 i q k p.1 p.2, k1_pay9 i q k p.1 p.2))
      (k1_pay5 i q k, k1_pay4 i q k)).1 (ix2 r 0)
    = ((halve (fun x => 204 ≤ count (masked (dots q k r) (line i r).val neg) x) half)^[24]
        (bot (masked (dots q k r) (line i r).val ⊤), top (masked (dots q k r) (line i r).val neg))).1 := by
  rw [fold_const k1_t1_loop.trips (fun p : FVec Ideal S256x1 .f32 × FVec Ideal S256x1 .f32 => (k1_pay8 i q k p.1 p.2, k1_pay9 i q k p.1 p.2)),
    show k1_t1_loop.trips = 24 from by decide]
  have hs : Function.Semiconj (fun p : FVec Ideal S256x1 .f32 × FVec Ideal S256x1 .f32 => (p.1 (ix2 r 0), p.2 (ix2 r 0)))
      (fun p => (k1_pay8 i q k p.1 p.2, k1_pay9 i q k p.1 p.2))
      (halve (fun x => 204 ≤ count (masked (dots q k r) (line i r).val neg) x) half) := fun p => round_at i q k r p.1 p.2
  have h := hs.iterate_right 24 (k1_pay5 i q k, k1_pay4 i q k)
  simp only [top_at, bot_at] at h
  exact congrArg Prod.fst h

end Cert.Proof.Kern
-- ==== Proof.Kern.Attn.lean ====
/- The attention body of the kernel on one block: what it stores is the row's weights divided by their sum, against the values. -/
module

public import proofs.«01_k».proof.Proof.Gen.KernelIdeal.Frame
public import proofs.«01_k».proof.Proof.Kern.Threshold

@[expose] public section

noncomputable section

namespace Cert.Proof.Kern

open Idealize.ShloMosaic Idealize.ShloMosaic.TcCoe Idealize.ShloMosaic.WordCmp Idealize.ShloMosaic.Tactic Cert.KernelIdeal Cert.KernelIdeal.Gen Row

theorem hz3 : (![0, 0, 0] : Fin 3 → Nat) = fun _ => 0 := funext fun a => by fin_cases a <;> rfl

/-- What the attention body stores, of the blocks it reads. -/
theorem attn_stored (c : Dev nD) (i : grid1.Coords) (arg2 : Memref sig .tc .vmem S1x256x64 .f32) (harg2 : arg2.IsWhole)
    (arg3 : Memref sig .tc .vmem S1x2048x64 .f32) (harg3 : arg3.IsWhole) (arg4 : Memref sig .tc .vmem S1x2048x64 .f32)
    (harg4 : arg4.IsWhole) (arg5 : Memref sig .tc .vmem S1x256x64 .f32) (harg5 : arg5.IsWhole)
    (q : Vec Ideal S1x256x64 .f32) (k v : Vec Ideal S1x2048x64 .f32) :
    out1_A_3 (F := Ideal) c i arg2 harg2 arg3 harg3 arg4 harg4 arg5 harg5 q k v
      = k1_pay1 (k1_pay10 i q k (Scf.fold (fun (_ : Fin k1_t1_loop.trips) p => (k1_pay8 i q k p.1 p.2, k1_pay9 i q k p.1 p.2))
          (k1_pay5 i q k, k1_pay4 i q k)).1) (k1_pay11 i q k) v := by
  unfold out1_A_3
  rw [View.read_writes_junk_eq_canon]
  unfold kernelRun1_A
  dsimp only
  sl_unfold_words
  rw [View.canon_unit_zero hz3]
  simp only [View.readAt_eq_ld, harg2.read_unread, harg3.read_unread, harg4.read_unread, View.ld_unit_zero (S := S1x256x64) hz3,
    View.ld_unit_zero (S := S1x2048x64) hz3]

variable (i : grid1.Coords) (q : Vec Ideal S1x256x64 .f32) (k v : Vec Ideal S1x2048x64 .f32) (r : Fin 256)

/-- The row holds at most 204 scores that are not masked, as the kernel asks it. -/
theorem few : IntOp.cmpi .sle (IntOp.addi (IntOp.addi (Scalar.muli (BitVec.ofNat 32 (i 1).val) 256#32) (BitVec.ofNat 32 r.val)) 1#32) 204#32
    = BitVec.ofBool (decide ((line i r).val + 1 ≤ 204)) := by
  have h1 := (line i r).isLt
  have e : IntOp.addi (IntOp.addi (Scalar.muli (BitVec.ofNat 32 (i 1).val) 256#32) (BitVec.ofNat 32 r.val)) 1#32 = BitVec.ofNat 32 ((line i r).val + 1) := by
    rw [show (256#32 : BitVec 32) = BitVec.ofNat 32 256 from rfl, show (1#32 : BitVec 32) = BitVec.ofNat 32 1 from rfl,
      show Scalar.muli (BitVec.ofNat 32 (i 1).val) (BitVec.ofNat 32 256)
      = IntOp.muli (BitVec.ofNat 32 (i 1).val) (BitVec.ofNat 32 256) from rfl, muli_ofNat, addi_ofNat, addi_ofNat]
    rfl
  rw [e, show (204#32 : BitVec 32) = BitVec.ofNat 32 204 from rfl, cmpi_sle_ofNat (by omega) (by omega)]

/-- The columns the row keeps, given the lower bound `a` the loop left. -/
theorem keeps_at (a : FVec Ideal S256x1 .f32) (l : Fin 2048) : k1_pay10 i q k a (ix2 r l)
    = BitVec.ofBool (decide ((if (line i r).val + 1 ≤ 204 then bot (masked (dots q k r) (line i r).val ⊤) else a (ix2 r 0))
        ≤ masked (dots q k r) (line i r).val neg l)) := by
  have e : k1_pay10 i q k a (ix2 r l) = BitVec.ofBool (decide (Scalar.select
      (IntOp.cmpi .sle (IntOp.addi (IntOp.addi (Scalar.muli (BitVec.ofNat 32 (i 1).val) 256#32) (BitVec.ofNat 32 r.val)) 1#32) 204#32)
      (k1_pay5 i q k (ix2 r 0)) (a (ix2 r 0)) ≤ k1_pay3 i q k (ix2 r l))) := by
    pointwise [k1_pay10]
  rw [e, few, bot_at, score_at, select_ofBool]
  simp only [decide_eq_true_eq]

theorem exps_at (l : Fin 2048) : k1_pay11 i q k (ix2 r l)
    = Ideal.exp (masked (dots q k r) (line i r).val neg l - top (masked (dots q k r) (line i r).val neg)) := by
  have e : k1_pay11 i q k (ix2 r l) = Ideal.exp (k1_pay3 i q k (ix2 r l) - k1_pay4 i q k (ix2 r 0)) := by
    pointwise [k1_pay11]
  rw [e, top_at, score_at]

/-- The weight of column `l` of row `r`. -/
abbrev weight (l : Fin 2048) : EReal := kernelWeight (dots q k r) (line i r).val 204 24 neg half l

theorem attn_at (e : Fin 64) (c : Dev nD) (arg2 : Memref sig .tc .vmem S1x256x64 .f32) (harg2 : arg2.IsWhole)
    (arg3 : Memref sig .tc .vmem S1x2048x64 .f32) (harg3 : arg3.IsWhole) (arg4 : Memref sig .tc .vmem S1x2048x64 .f32)
    (harg4 : arg4.IsWhole) (arg5 : Memref sig .tc .vmem S1x256x64 .f32) (harg5 : arg5.IsWhole) :
    out1_A_3 (F := Ideal) c i arg2 harg2 arg3 harg3 arg4 harg4 arg5 harg5 q k v (ix3 0 r e)
      = ∑ j, Ideal.div (weight i q k r j) (∑ j, weight i q k r j) * v (ix3 0 j e) := by
  rw [attn_stored]
  have h : ∀ (a : IVec S256x2048 1) (b : FVec Ideal S256x2048 .f32), k1_pay1 a b v (ix3 0 r e)
      = ∑ x, Ideal.div (Scalar.select (a (ix2 r x)) (b (ix2 r x)) 0) (∑ x, Scalar.select (a (ix2 r x)) (b (ix2 r x)) 0) * v (ix3 0 x e) := by
    intro a b
    pointwise [k1_pay1]
  rw [h]
  have w : ∀ x, Scalar.select (k1_pay10 i q k (Scf.fold (fun (_ : Fin k1_t1_loop.trips) p => (k1_pay8 i q k p.1 p.2, k1_pay9 i q k p.1 p.2))
          (k1_pay5 i q k, k1_pay4 i q k)).1 (ix2 r x)) (k1_pay11 i q k (ix2 r x)) (0 : EReal) = weight i q k r x := by
    intro x
    rw [keeps_at, loop_at, exps_at, select_ofBool]
    simp only [decide_eq_true_eq, weight, kernelWeight, threshold]
    rfl
  simp only [w]

end Cert.Proof.Kern
-- ==== Proof.Kern.Attend.lean ====
/- The attention region of the kernel: its result array, head by head and row by row, from the three arrays it reads. -/
module

public import proofs.«01_k».proof.Proof.Kern.Attn
public import Idealize.ShloMosaic.Lib.Pipeline.ValueKit

@[expose] public section

noncomputable section

namespace Cert.Proof.Kern

open Idealize.ShloMosaic Idealize.ShloMosaic.TcCoe Idealize.ShloMosaic.Tactic Cert.KernelIdeal Cert.KernelIdeal.Gen Row

/-- Where each window's block lies, and which block of rows a point works on. -/
theorem idx1 : ∀ t : Fin cfg1.N, win1_0.index t = ![t.val / 8, t.val % 8, 0] ∧ win1_1.index t = ![t.val / 8, 0, 0]
    ∧ win1_2.index t = ![t.val / 8, 0, 0] ∧ win1_3.index t = ![t.val / 8, t.val % 8, 0] ∧ (grid1.coords t 1).val = t.val % 8 := by
  decide +kernel

/-- The scores of row `s` in head `h`. -/
def scores (Q K : S16x2048x64.Idx → EReal) (h : Fin 16) (s j : Fin 2048) : EReal :=
  (∑ e : Fin 64, Q (ix3 h s e) * K (ix3 h j e)) * Ideal.ofBits .f32 1040187392#32

/-- The weights of row `s` in head `h`. -/
def weights (Q K : S16x2048x64.Idx → EReal) (h : Fin 16) (s j : Fin 2048) : EReal :=
  kernelWeight (scores Q K h s) s.val 204 24 neg half j

/-- The attention of row `s` in head `h`. -/
def attention (Q K W : S16x2048x64.Idx → EReal) (h : Fin 16) (s : Fin 2048) (e : Fin 64) : EReal :=
  ∑ j, Ideal.div (weights Q K h s j) (∑ j, weights Q K h s j) * W (ix3 h j e)

/-- The result array of the region. -/
def attentionAll (Q K W : S16x2048x64.Idx → EReal) (j : S16x2048x64.Idx) : EReal := attention Q K W (j 0) (j 1) (j 2)

theorem attentionAll_at (Q K W : S16x2048x64.Idx → EReal) (j : S16x2048x64.Idx) (h : Fin 16) (s : Fin 2048) (e : Fin 64)
    (h0 : (j 0).val = h.val) (h1 : (j 1).val = s.val) (h2 : (j 2).val = e.val) : attentionAll Q K W j = attention Q K W h s e := by
  have e0 : j 0 = h := Fin.ext h0
  have e1 : j 1 = s := Fin.ext h1
  have e2 : j 2 = e := Fin.ext h2
  unfold attentionAll
  rw [e0, e1, e2]

variable (V : (c : Dev nD) → (b : Ref sig .tc) → Buf (Elt Ideal) ((c : Thread nD τ).loc b)) (c : Dev nD)

/-- A place of a block of queries is a place of their array, -/
theorem queries1 (t : Fin cfg1.N) (r : Fin 256) (e : Fin 64) (h : Fin 16) (s : Fin 2048) (hh : h.val = t.val / 8)
    (hs : s.val = t.val % 8 * 256 + r.val) :
    iblk1 V c 0 t (ix3 0 r e) = (V c main_v69 : S16x2048x64.Idx → EReal) (ix3 h s e) := by
  show (V c main_v69 : S16x2048x64.Idx → EReal) (((cfg1.win 0).blk t).view.emb (ix3 0 r e)) = _
  congr 1
  funext a
  apply Fin.ext
  refine (Pipeline.Window.rect_emb_val win1_0 t _ a).trans ?_
  rw [(idx1 t).1]
  match a with
  | ⟨0, _⟩ => show t.val / 8 * 1 + 0 = h.val; omega
  | ⟨1, _⟩ => exact hs.symm
  | ⟨2, _⟩ => show 0 * 64 + e.val = e.val; omega

/-- and so are the keys -/
theorem keys1 (t : Fin cfg1.N) (j : Fin 2048) (e : Fin 64) (h : Fin 16) (hh : h.val = t.val / 8) :
    iblk1 V c 1 t (ix3 0 j e) = (V c main_v71 : S16x2048x64.Idx → EReal) (ix3 h j e) := by
  show (V c main_v71 : S16x2048x64.Idx → EReal) (((cfg1.win 1).blk t).view.emb (ix3 0 j e)) = _
  congr 1
  funext a
  apply Fin.ext
  refine (Pipeline.Window.rect_emb_val win1_1 t _ a).trans ?_
  rw [(idx1 t).2.1]
  match a with
  | ⟨0, _⟩ => show t.val / 8 * 1 + 0 = h.val; omega
  | ⟨1, _⟩ => show 0 * 2048 + j.val = j.val; omega
  | ⟨2, _⟩ => show 0 * 64 + e.val = e.val; omega

/-- and the values of the head. -/
theorem values1 (t : Fin cfg1.N) (j : Fin 2048) (e : Fin 64) (h : Fin 16) (hh : h.val = t.val / 8) :
    iblk1 V c 2 t (ix3 0 j e) = (V c main_v73 : S16x2048x64.Idx → EReal) (ix3 h j e) := by
  show (V c main_v73 : S16x2048x64.Idx → EReal) (((cfg1.win 2).blk t).view.emb (ix3 0 j e)) = _
  congr 1
  funext a
  apply Fin.ext
  refine (Pipeline.Window.rect_emb_val win1_2 t _ a).trans ?_
  rw [(idx1 t).2.2.1]
  match a with
  | ⟨0, _⟩ => show t.val / 8 * 1 + 0 = h.val; omega
  | ⟨1, _⟩ => show 0 * 2048 + j.val = j.val; omega
  | ⟨2, _⟩ => show 0 * 64 + e.val = e.val; omega

/-- What one point leaves in its block, at a place of the array. -/
theorem attn_point (t : Fin cfg1.N) (r : Fin 256) (e : Fin 64) (h : Fin 16) (s : Fin 2048) (hh : h.val = t.val / 8)
    (hs : s.val = t.val % 8 * 256 + r.val) :
    outsAt1 V c t (ix3 0 r e) = attention (V c main_v69) (V c main_v71) (V c main_v73) h s e := by
  unfold outsAt1
  refine (attn_at _ _ _ _ r e c _ _ _ _ _ _ _ _).trans ?_
  have hd : dots (iblk1 V c 0 t) (iblk1 V c 1 t) r = scores (V c main_v69) (V c main_v71) h s := by
    funext j
    unfold dots scores
    refine congrArg (· * _) (Finset.sum_congr rfl fun d _ => ?_)
    rw [queries1 V c t r d h s hh hs, keys1 V c t j d h hh]
  have hl : line (grid1.coords t) r = s := Fin.ext (by
    show (grid1.coords t 1).val * 256 + r.val = s.val
    rw [(idx1 t).2.2.2.2, hs])
  have hw : ∀ j, weight (grid1.coords t) (iblk1 V c 0 t) (iblk1 V c 1 t) r j = weights (V c main_v69) (V c main_v71) h s j := by
    intro j
    unfold weight weights
    rw [hd, hl]
  unfold attention
  refine Finset.sum_congr rfl fun j _ => ?_
  rw [values1 V c t j e h hh, hw, Finset.sum_congr rfl fun j _ => hw j]

theorem attn_place (t : Fin cfg1.N) (y : S1x256x64.Idx) (j : S16x2048x64.Idx) (h0 : (j 0).val = t.val / 8)
    (h1 : (j 1).val = t.val % 8 * 256 + (y 1).val) (h2 : (j 2).val = (y 2).val) :
    outsAt1 V c t y = attentionAll (V c main_v69) (V c main_v71) (V c main_v73) j := by
  have hy : y = ix3 (0 : Fin 1) (y 1 : Fin 256) (y 2 : Fin 64) := by
    funext a
    match a with
    | ⟨0, _⟩ => exact Subsingleton.elim (α := Fin 1) _ _
    | ⟨1, _⟩ => rfl
    | ⟨2, _⟩ => rfl
  rw [attentionAll_at _ _ _ j (j 0) (j 1) (y 2) rfl rfl h2, hy]
  exact attn_point V c t (y 1) (y 2) (j 0) (j 1) h0 h1

/-- The place in the array of a place of the result's block. -/
theorem place1_0 (t : Fin cfg1.N) (y : S1x256x64.Idx) : ((((cfg1.win 3).blk t).view.emb y : S16x2048x64.Idx) 0).val = t.val / 8 := by
  refine (Pipeline.Window.rect_emb_val win1_3 t y 0).trans ?_
  rw [(idx1 t).2.2.2.1]
  have h : (y 0).val < 1 := (y 0).isLt
  show t.val / 8 * 1 + (y 0).val = t.val / 8
  omega

theorem place1_1 (t : Fin cfg1.N) (y : S1x256x64.Idx) :
    ((((cfg1.win 3).blk t).view.emb y : S16x2048x64.Idx) 1).val = t.val % 8 * 256 + (y 1).val := by
  refine (Pipeline.Window.rect_emb_val win1_3 t y 1).trans ?_
  rw [(idx1 t).2.2.2.1]; rfl

theorem place1_2 (t : Fin cfg1.N) (y : S1x256x64.Idx) : ((((cfg1.win 3).blk t).view.emb y : S16x2048x64.Idx) 2).val = (y 2).val := by
  refine (Pipeline.Window.rect_emb_val win1_3 t y 2).trans ?_
  rw [(idx1 t).2.2.2.1]
  show 0 * 64 + (y 2).val = (y 2).val
  omega

theorem attn_array : (dat1 V c).arrAt 3 cfg1.N = attentionAll (V c main_v69) (V c main_v71) (V c main_v73) := by
  refine (dat1 V c).arrAt_eq_of_covers 3 _ (by decide +kernel) fun t hf y => ?_
  rw [after1_3]
  blk_simp
  generalize hj : ((cfg1.win 3).blk t).view.emb y = j
  have h0 := place1_0 t y
  have h1 := place1_1 t y
  have h2 := place1_2 t y
  rw [hj] at h0 h1 h2
  exact attn_place V c t y j h0 h1 h2

end Cert.Proof.Kern
-- ==== Proof.Kern.Project.lean ====
/- The projection region of the kernel: its result array is the rows multiplied by the weights, the bias added. -/
module

public import proofs.«01_k».proof.Proof.Gen.KernelIdeal.Frame
public import Idealize.ShloMosaic.Lib.Pointwise
public import Idealize.ShloMosaic.Lib.Pipeline.ValueKit

@[expose] public section

noncomputable section

namespace Cert.Proof.Kern

open Idealize.ShloMosaic Idealize.ShloMosaic.TcCoe Idealize.ShloMosaic.Tactic Cert.KernelIdeal Cert.KernelIdeal.Gen

theorem hz2' : (![0, 0] : Fin 2 → Nat) = fun _ => 0 := funext fun a => by fin_cases a <;> rfl

/-- Where each window's block lies. -/
theorem idx2 : ∀ t : Fin cfg2.N, win2_0.index t = ![t.val, 0] ∧ win2_1.index t = ![0, 0] ∧ win2_2.index t = ![0, 0] ∧ win2_3.index t = ![t.val, 0] := by
  decide +kernel

/-- A projected row. -/
def project (x : S2048x1024.Idx → EReal) (w : S1024x1024.Idx → EReal) (b : S1x1024.Idx → EReal) (s : Fin 2048) (l : Fin 1024) : EReal :=
  (∑ d, x (ix2 s d) * w (ix2 l d)) + b (ix2 0 l)

theorem project_block (x : Vec Ideal S512x1024 .f32) (w : Vec Ideal S1024x1024 .f32) (b : Vec Ideal S1x1024 .f32) (r : Fin 512) (l : Fin 1024) :
    out2_3 x w b (ix2 r l) = (∑ d, x (ix2 r d) * w (ix2 l d)) + b (ix2 0 l) := by
  unfold out2_3
  rw [View.canon_unit_zero hz2', View.ld_unit_zero (S := S512x1024) hz2', View.ld_unit_zero (S := S1024x1024) hz2',
    View.ld_unit_zero (S := S1x1024) hz2']
  pointwise [k2_pay1]

variable (V : (c : Dev nD) → (b : Ref sig .tc) → Buf (Elt Ideal) ((c : Thread nD τ).loc b)) (c : Dev nD)

/-- A place of a block of rows is a place of the array, -/
theorem rows2 (t : Fin cfg2.N) (r : Fin 512) (k : Fin 1024) (s : Fin 2048) (hs : s.val = t.val * 512 + r.val) :
    iblk2 V c 0 t (ix2 r k) = (V c main_v76 : S2048x1024.Idx → EReal) (ix2 s k) := by
  show (V c main_v76 : S2048x1024.Idx → EReal) (((cfg2.win 0).blk t).view.emb (ix2 r k)) = _
  congr 1
  funext a
  apply Fin.ext
  refine (Pipeline.Window.rect_emb_val win2_0 t _ a).trans ?_
  rw [(idx2 t).1]
  match a with
  | ⟨0, _⟩ => exact hs.symm
  | ⟨1, _⟩ => show 0 * 1024 + k.val = k.val; omega

/-- the weights are one block, -/
theorem weights2 (t : Fin cfg2.N) (r : Fin 1024) (k : Fin 1024) :
    iblk2 V c 1 t (ix2 r k) = (V c main_arg3 : S1024x1024.Idx → EReal) (ix2 r k) := by
  show (V c main_arg3 : S1024x1024.Idx → EReal) (((cfg2.win 1).blk t).view.emb (ix2 r k)) = _
  congr 1
  funext a
  apply Fin.ext
  refine (Pipeline.Window.rect_emb_val win2_1 t _ a).trans ?_
  rw [(idx2 t).2.1]
  match a with
  | ⟨0, _⟩ => show 0 * 1024 + r.val = r.val; omega
  | ⟨1, _⟩ => show 0 * 1024 + k.val = k.val; omega

/-- and so is the bias. -/
theorem bias2 (t : Fin cfg2.N) (k : Fin 1024) :
    iblk2 V c 2 t (ix2 0 k) = (V c main_v77 : S1x1024.Idx → EReal) (ix2 0 k) := by
  show (V c main_v77 : S1x1024.Idx → EReal) (((cfg2.win 2).blk t).view.emb (ix2 0 k)) = _
  congr 1
  funext a
  apply Fin.ext
  refine (Pipeline.Window.rect_emb_val win2_2 t _ a).trans ?_
  rw [(idx2 t).2.2.1]
  match a with
  | ⟨0, _⟩ => rfl
  | ⟨1, _⟩ => show 0 * 1024 + k.val = k.val; omega

/-- What one point leaves in its block, at a place of the array. -/
theorem project_point (t : Fin cfg2.N) (r : Fin 512) (l : Fin 1024) (s : Fin 2048) (hs : s.val = t.val * 512 + r.val) :
    out2_3 (iblk2 V c 0 t) (iblk2 V c 1 t) (iblk2 V c 2 t) (ix2 r l) = project (V c main_v76) (V c main_arg3) (V c main_v77) s l := by
  refine (project_block _ _ _ _ _).trans ?_
  unfold project
  rw [bias2]
  refine congrArg (· + _) (Finset.sum_congr rfl fun d _ => ?_)
  rw [rows2 V c t r d s hs, weights2]

/-- The result array of the region. -/
def projectAll (x : S2048x1024.Idx → EReal) (w : S1024x1024.Idx → EReal) (b : S1x1024.Idx → EReal) (j : S2048x1024.Idx) : EReal :=
  project x w b (j 0) (j 1)

theorem projectAll_at (x : S2048x1024.Idx → EReal) (w : S1024x1024.Idx → EReal) (b : S1x1024.Idx → EReal) (j : S2048x1024.Idx)
    (s : Fin 2048) (l : Fin 1024) (h0 : (j 0).val = s.val) (h1 : (j 1).val = l.val) : projectAll x w b j = project x w b s l := by
  have e0 : j 0 = s := Fin.ext h0
  have e1 : j 1 = l := Fin.ext h1
  unfold projectAll
  rw [e0, e1]

theorem project_place (t : Fin cfg2.N) (y : S512x1024.Idx) (j : S2048x1024.Idx) (h0 : (j 0).val = t.val * 512 + (y 0).val)
    (h1 : (j 1).val = (y 1).val) :
    out2_3 (iblk2 V c 0 t) (iblk2 V c 1 t) (iblk2 V c 2 t) y = projectAll (V c main_v76) (V c main_arg3) (V c main_v77) j := by
  have hy : y = ix2 (y 0 : Fin 512) (y 1 : Fin 1024) := by
    funext a; fin_cases a <;> rfl
  rw [projectAll_at _ _ _ j (j 0) (y 1) rfl h1, hy]
  exact project_point V c t (y 0) (y 1) (j 0) h0

/-- The place in the array of a place of the result's block. -/
theorem place2_0 (t : Fin cfg2.N) (y : S512x1024.Idx) :
    ((((cfg2.win 3).blk t).view.emb y : S2048x1024.Idx) 0).val = t.val * 512 + (y 0).val := by
  refine (Pipeline.Window.rect_emb_val win2_3 t y 0).trans ?_
  rw [(idx2 t).2.2.2]; rfl

theorem place2_1 (t : Fin cfg2.N) (y : S512x1024.Idx) : ((((cfg2.win 3).blk t).view.emb y : S2048x1024.Idx) 1).val = (y 1).val := by
  refine (Pipeline.Window.rect_emb_val win2_3 t y 1).trans ?_
  rw [(idx2 t).2.2.2]
  show 0 * 1024 + (y 1).val = (y 1).val
  omega

theorem project_array : (dat2 V c).arrAt 3 cfg2.N = projectAll (V c main_v76) (V c main_arg3) (V c main_v77) := by
  refine (dat2 V c).arrAt_eq_of_covers 3 _ (by decide +kernel) fun t hf y => ?_
  rw [after2_3]
  blk_simp
  generalize hj : ((cfg2.win 3).blk t).view.emb y = j
  have h0 := place2_0 t y
  have h1 := place2_1 t y
  rw [hj] at h0 h1
  exact project_place V c t y j h0 h1

end Cert.Proof.Kern
-- ==== Proof.Kern.Value.lean ====
module

public import proofs.«01_k».proof.Proof.Kern.Host
public import proofs.«01_k».proof.Proof.Kern.Prepare
public import proofs.«01_k».proof.Proof.Kern.Attend
public import proofs.«01_k».proof.Proof.Kern.Project

/-!
# The kernel's result, entry by entry

The host stretches and the three regions put together, from the launch to the result.
-/

@[expose] public section

noncomputable section

namespace Cert.Proof.Kern

open Cert.KernelIdeal Cert.KernelIdeal.Gen Idealize.ShloMosaic Idealize.ShloMosaic.TcCoe Idealize.ShloMosaic.Tactic Idealize.ShloMosaic.StableHlo

section projected

variable (A : Spec.Args) (x g : Vec Ideal S2056x1024 .f32) (w : Vec Ideal S1024x1024 .f32) (t : Vec Ideal S4 .f32) (off : ℕ) (hoff : off ≤ 2048)
  (hx : ∀ p d, x (ix2 p d) = Spec.past (fun s => A.x (ix3 0 s d)) p.val)
  (hg : ∀ p d, g (ix2 p d) = Spec.past (fun s => Spec.gain A s d) p.val)
  (hw : ∀ p d : Fin 1024, w (ix2 p d) = A.wqkv (ix2 ⟨off + p.val, by omega⟩ d))

include hx hg hw

/-- A row of the padded projection is a row of the projection with zeros in front of it. -/
theorem projected_eq (l : Fin 1024) (q : Fin 2056) : projected x g w l q = Spec.past (Spec.proj A ⟨off + l.val, by omega⟩) q.val := by
  unfold projected
  by_cases h : 3 ≤ q.val ∧ q.val - 3 < 2048
  · simp only [hx, hg, hw, Spec.past, dif_pos h, Spec.proj]
  · simp only [hx, hg, hw, Spec.past, dif_neg h, zero_mul, Finset.sum_const_zero]

/-- The mixing of the padded projection is the mixing of the projection. -/
theorem mixed_eq (s : Fin 2048) (l : Fin 1024) : mixed x g w t s l = Spec.mix t (Spec.proj A ⟨off + l.val, by omega⟩) s := by
  unfold mixed Spec.mix
  simp only [projected_eq A x g w off hoff hx hg hw]

end projected

/-- The rotation of a row by its angles. -/
theorem turned_eq (A : Spec.Args) (f : Fin 2048 → Fin 1024 → EReal) (s : Fin 2048) (l : Fin 1024) :
    turned (f s) (Ideal.cos (Spec.angle A s (l.val % 64 / 2))) (Ideal.sin (Spec.angle A s (l.val % 64 / 2))) l = Spec.rope A f s l := rfl

/-- Valuations with the same arguments hold the same arguments. -/
theorem args_congr {V V' : Valuation τ sig (Elt Ideal)} (h : ∀ a ∈ argRefs, V (Proc.devRef .tc a) = V' (Proc.devRef .tc a)) : args V = args V' := by
  unfold args
  rw [h main_arg0 (by decide), h main_arg1 (by decide), h main_arg2 (by decide), h main_arg3 (by decide), h main_arg4 (by decide),
    h main_arg5 (by decide), h main_arg6 (by decide), h main_arg7 (by decide), h main_arg8 (by decide), h main_arg9 (by decide),
    h main_arg10 (by decide)]

variable (m : (ℓ : Loc nD τ sig) → Buf (Elt Ideal) ℓ) (ρ : Dev nD → PrngReg) (c : Dev nD)

/-- The arguments of the launch. -/
abbrev launched : Spec.Args := args (W0 m ρ c)

theorem args1 : args (W1 m ρ c) = launched m ρ c := args_congr fun a ha => (W1_args m ρ c a ha).trans (W0_args m ρ c a ha).symm
theorem args2 : args (W2 m ρ c) = launched m ρ c := args_congr fun a ha => (W2_args m ρ c a ha).trans (W0_args m ρ c a ha).symm
theorem args4 : args (W4 m ρ c) = launched m ρ c := args_congr fun a ha => (W4_args m ρ c a ha).trans (W0_args m ρ c a ha).symm
theorem args5 : args (W5 m ρ c) = launched m ρ c := args_congr fun a ha => (W5_args m ρ c a ha).trans (W0_args m ρ c a ha).symm
theorem args8 : args (W8 m ρ c) = launched m ρ c := args_congr fun a ha => (W8_args m ρ c a ha).trans (W0_args m ρ c a ha).symm
theorem args9 : args (W9 m ρ c) = launched m ρ c := args_congr fun a ha => (W9_args m ρ c a ha).trans (W0_args m ρ c a ha).symm

theorem enter_x (p : Fin 2056) (d : Fin 1024) :
    (V5 m ρ c main_v1 : S2056x1024.Idx → EReal) (ix2 p d) = Spec.past (fun s => (launched m ρ c).x (ix3 0 s d)) p.val := by
  have h : W5 m ρ c (Proc.devRef .tc main_v1) = W2 m ρ c (Proc.devRef .tc main_v1) :=
    (W5_of m ρ c main_v1 (by decide)).trans ((W4_of m ρ c main_v1 (by decide)).trans (W3_of m ρ c main_v1 (by decide)))
  exact (congrFun h (ix2 p d)).trans (padded_at (W0 m ρ c) p d)

theorem enter_gain (p : Fin 2056) (d : Fin 1024) :
    (V5 m ρ c main_v36 : S2056x1024.Idx → EReal) (ix2 p d) = Spec.past (fun s => Spec.gain (launched m ρ c) s d) p.val := by
  rw [← args2]
  exact (congrFun (W5_of m ρ c main_v36 (by decide)) (ix2 p d)).trans (gain_padded_at (W2 m ρ c) p d)

theorem enter_wq (p d : Fin 1024) :
    (V5 m ρ c main_v2 : S1024x1024.Idx → EReal) (ix2 p d) = (launched m ρ c).wqkv (ix2 ⟨0 + p.val, by omega⟩ d) := by
  have e : (⟨0 + p.val, by omega⟩ : Fin 3072) = ⟨p.val, by omega⟩ := Fin.ext (Nat.zero_add _)
  rw [e, ← args2]
  exact (congrFun ((W5_of m ρ c main_v2 (by decide)).trans (W4_of m ρ c main_v2 (by decide))) (ix2 p d)).trans (weight_q_at (W2 m ρ c) p d)

theorem enter_wk (p d : Fin 1024) :
    (V5 m ρ c main_v3 : S1024x1024.Idx → EReal) (ix2 p d) = (launched m ρ c).wqkv (ix2 ⟨1024 + p.val, by omega⟩ d) := by
  rw [← args2]
  exact (congrFun ((W5_of m ρ c main_v3 (by decide)).trans (W4_of m ρ c main_v3 (by decide))) (ix2 p d)).trans (weight_k_at (W2 m ρ c) p d)

theorem enter_wv (p d : Fin 1024) :
    (V5 m ρ c main_v4 : S1024x1024.Idx → EReal) (ix2 p d) = (launched m ρ c).wqkv (ix2 ⟨2048 + p.val, by omega⟩ d) := by
  rw [← args2]
  exact (congrFun ((W5_of m ρ c main_v4 (by decide)).trans (W4_of m ρ c main_v4 (by decide))) (ix2 p d)).trans (weight_v_at (W2 m ρ c) p d)

theorem enter_cos (p : Fin 2048) (d : Fin 1024) :
    (V5 m ρ c main_v60 : S2048x1024.Idx → EReal) (ix2 p d) = Ideal.cos (Spec.angle (launched m ρ c) p (d.val % 64 / 2)) := by
  rw [← args4]; exact cos_at (W4 m ρ c) p d

theorem enter_sin (p : Fin 2048) (d : Fin 1024) :
    (V5 m ρ c main_v66 : S2048x1024.Idx → EReal) (ix2 p d) = Ideal.sin (Spec.angle (launched m ρ c) p (d.val % 64 / 2)) := by
  rw [← args4]; exact sin_at (W4 m ρ c) p d

theorem enter_tq : (V5 m ρ c main_arg5 : S4.Idx → EReal) = (launched m ρ c).tkq := W5_args m ρ c main_arg5 (by decide)
theorem enter_tk : (V5 m ρ c main_arg6 : S4.Idx → EReal) = (launched m ρ c).tkk := W5_args m ρ c main_arg6 (by decide)
theorem enter_tv : (V5 m ρ c main_arg7 : S4.Idx → EReal) = (launched m ρ c).tkv := W5_args m ρ c main_arg7 (by decide)

/-- The rotated queries, -/
theorem queries_at (s : Fin 2048) (l : Fin 1024) :
    (W6 m ρ c (Proc.devRef .tc main_v67_0) : S2048x1024.Idx → EReal) (ix2 s l) = Spec.rope (launched m ρ c) (Spec.query (launched m ρ c)) s l := by
  refine (congrFun ((W6_arr m ρ c 10).trans (query_array (V5 m ρ) c)) (ix2 s l)).trans ?_
  show turned (fun l => mixed (V5 m ρ c main_v1) (V5 m ρ c main_v36) (V5 m ρ c main_v2) (V5 m ρ c main_arg5) s l)
    ((V5 m ρ c main_v60 : S2048x1024.Idx → EReal) (ix2 s l)) ((V5 m ρ c main_v66 : S2048x1024.Idx → EReal) (ix2 s l)) l = _
  rw [enter_cos, enter_sin, ← turned_eq]
  refine congrFun (congrFun (congrFun (congrArg turned (funext fun l => ?_)) _) _) l
  rw [mixed_eq (launched m ρ c) _ _ _ _ 0 (by omega) (enter_x m ρ c) (enter_gain m ρ c) (enter_wq m ρ c), enter_tq]
  have e : (⟨0 + l.val, by omega⟩ : Fin 3072) = ⟨l.val, by omega⟩ := Fin.ext (Nat.zero_add _)
  rw [e]; rfl

/-- the rotated keys -/
theorem keys_at (s : Fin 2048) (l : Fin 1024) :
    (W6 m ρ c (Proc.devRef .tc main_v67_1) : S2048x1024.Idx → EReal) (ix2 s l) = Spec.rope (launched m ρ c) (Spec.key (launched m ρ c)) s l := by
  refine (congrFun ((W6_arr m ρ c 11).trans (key_array (V5 m ρ) c)) (ix2 s l)).trans ?_
  show turned (fun l => mixed (V5 m ρ c main_v1) (V5 m ρ c main_v36) (V5 m ρ c main_v3) (V5 m ρ c main_arg6) s l)
    ((V5 m ρ c main_v60 : S2048x1024.Idx → EReal) (ix2 s l)) ((V5 m ρ c main_v66 : S2048x1024.Idx → EReal) (ix2 s l)) l = _
  rw [enter_cos, enter_sin, ← turned_eq]
  refine congrFun (congrFun (congrFun (congrArg turned (funext fun l => ?_)) _) _) l
  rw [mixed_eq (launched m ρ c) _ _ _ _ 1024 (by omega) (enter_x m ρ c) (enter_gain m ρ c) (enter_wk m ρ c), enter_tk]
  rfl

/-- and the values. -/
theorem values_at (s : Fin 2048) (l : Fin 1024) :
    (W6 m ρ c (Proc.devRef .tc main_v67_2) : S2048x1024.Idx → EReal) (ix2 s l) = Spec.val (launched m ρ c) s l := by
  refine (congrFun ((W6_arr m ρ c 12).trans (val_array (V5 m ρ) c)) (ix2 s l)).trans ?_
  show mixed (V5 m ρ c main_v1) (V5 m ρ c main_v36) (V5 m ρ c main_v4) (V5 m ρ c main_arg7) s l = _
  rw [mixed_eq (launched m ρ c) _ _ _ _ 2048 (by omega) (enter_x m ρ c) (enter_gain m ρ c) (enter_wv m ρ c), enter_tv]
  rfl

/-- The kernel's weights of row `s` in head `h`. -/
def rowWeights (A : Spec.Args) (s : Fin 2048) (h : Fin 16) (j : Fin 2048) : EReal :=
  Row.kernelWeight (Spec.score A h s) s.val 204 24 neg half j

theorem split_q (h : Fin 16) (s : Fin 2048) (e : Fin 64) : (V7 m ρ c main_v69 : S16x2048x64.Idx → EReal) (ix3 h s e)
    = Spec.rope (launched m ρ c) (Spec.query (launched m ρ c)) s (Spec.col h e) :=
  (heads_q_at (W6 m ρ c) h s e).trans (queries_at m ρ c s _)

theorem split_k (h : Fin 16) (s : Fin 2048) (e : Fin 64) : (V7 m ρ c main_v71 : S16x2048x64.Idx → EReal) (ix3 h s e)
    = Spec.rope (launched m ρ c) (Spec.key (launched m ρ c)) s (Spec.col h e) :=
  (heads_k_at (W6 m ρ c) h s e).trans (keys_at m ρ c s _)

theorem split_v (h : Fin 16) (s : Fin 2048) (e : Fin 64) : (V7 m ρ c main_v73 : S16x2048x64.Idx → EReal) (ix3 h s e)
    = Spec.val (launched m ρ c) s (Spec.col h e) :=
  (heads_v_at (W6 m ρ c) h s e).trans (values_at m ρ c s _)

theorem scores_eq (h : Fin 16) (s : Fin 2048) :
    scores (V7 m ρ c main_v69) (V7 m ρ c main_v71) h s = Spec.score (launched m ρ c) h s := by
  funext j
  unfold scores Spec.score
  refine congrArg (· * _) (Finset.sum_congr rfl fun e _ => ?_)
  rw [split_q, split_k]

theorem weights_eq (h : Fin 16) (s : Fin 2048) :
    weights (V7 m ρ c main_v69) (V7 m ρ c main_v71) h s = rowWeights (launched m ρ c) s h := by
  funext j
  unfold weights rowWeights
  rw [scores_eq]

/-- The attention. -/
theorem heads_at (h : Fin 16) (s : Fin 2048) (e : Fin 64) :
    (W8 m ρ c (Proc.devRef .tc main_v74) : S16x2048x64.Idx → EReal) (ix3 h s e)
      = Spec.attend (launched m ρ c) (rowWeights (launched m ρ c) s h) h e := by
  refine (congrFun ((W8_arr m ρ c 3).trans (attn_array (V7 m ρ) c)) (ix3 h s e)).trans ?_
  show attention (V7 m ρ c main_v69) (V7 m ρ c main_v71) (V7 m ρ c main_v73) h s e = _
  unfold attention Spec.attend
  rw [weights_eq]
  refine Finset.sum_congr rfl fun j _ => ?_
  rw [split_v]

/-- The kernel's result. -/
theorem kernel_at (s : Fin 2048) (d : Fin 1024) :
    (W11 m ρ c (Proc.devRef .tc main_v79) : S1x2048x1024.Idx → EReal) (ix3 0 s d)
      = Spec.result (launched m ρ c) (rowWeights (launched m ρ c) s) d := by
  refine (result_at (W10 m ρ c) s d).trans ?_
  refine (congrFun ((W10_arr m ρ c 3).trans (project_array (V9 m ρ) c)) (ix2 s d)).trans ?_
  show project (V9 m ρ c main_v76) (V9 m ρ c main_arg3) (V9 m ρ c main_v77) s d = _
  have hw : (V9 m ρ c main_arg3 : S1024x1024.Idx → EReal) = (launched m ρ c).wproj := W9_args m ρ c main_arg3 (by decide)
  have hb : (V9 m ρ c main_v77 : S1x1024.Idx → EReal) (ix2 0 d) = (launched m ρ c).bproj (ix1 d) :=
    (bias_at (W8 m ρ c) d).trans (congrFun (W8_args m ρ c main_arg4 (by decide)) (ix1 d))
  unfold project Spec.result
  rw [hb, hw]
  refine congrArg (· + _) (Finset.sum_congr rfl fun l _ => ?_)
  exact congrArg (· * _) ((joined_at (W8 m ρ c) s l).trans (heads_at m ρ c _ s _))

end Cert.Proof.Kern

end
-- ==== Proof.Kern.Run.lean ====
module

public import proofs.«01_k».proof.Proof.Gen.KernelIdeal.Frame

/-!
# Every run of the kernel
-/

@[expose] public section

noncomputable section

namespace Cert.Proof.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the last boundary's contents in the result and the arguments as they were. -/
theorem run : θ_run defs (onTc (τ := τ) (main (F := F))) ⟨m, fun _ => 0, ρ⟩ (fun r => (∀ c : Dev nD,
      r.2.mem ((c.tc : Thread nD τ).loc main_v79) = W11 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨(fun c =>
      ⟨h c _ (mem_uc main_v79 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩), funext fun g => hz g (.inr (no_unscoped g.2))⟩)

end Cert.Proof.Kern

end
-- ==== Proof.Ref.Heads.lean ====
module

public import proofs.«01_k».proof.Proof.Gen.ReferenceIdeal.Run
public import proofs.«01_k».proof.Proof.Spec.Attention
public import Idealize.ShloMosaic.Lib.Pointwise

/-!
# The reference's queries, keys, values and angles, read at an index

Each stage the reference's run names is one of the functions of `Spec.Attention`.
-/

@[expose] public section

noncomputable section

namespace Cert.Proof.Ref

open Cert.ReferenceIdeal Cert.ReferenceIdeal.Gen Cert.ReferenceIdeal.Value Idealize.ShloMosaic Idealize.ShloMosaic.TcCoe Idealize.ShloMosaic.StableHlo

/-- The arguments held by a valuation of the reference's host program. -/
def args (V : Valuation τ sig (Elt Ideal)) : Spec.Args where
  x := V (Proc.devRef .tc main_arg0)
  pos := V (Proc.devRef .tc main_arg1)
  wqkv := V (Proc.devRef .tc main_arg2)
  wproj := V (Proc.devRef .tc main_arg3)
  bproj := V (Proc.devRef .tc main_arg4)
  tkq := V (Proc.devRef .tc main_arg5)
  tkk := V (Proc.devRef .tc main_arg6)
  tkv := V (Proc.devRef .tc main_arg7)
  gamma := V (Proc.devRef .tc main_arg8)
  theta := V (Proc.devRef .tc main_arg9)
  phase := V (Proc.devRef .tc main_arg10)

variable (V : Valuation τ sig (Elt Ideal))

theorem proj_at (s : Fin 2048) (d : Fin 3072) :
    (res_main_v32 V : S1x2048x3072.Idx → EReal) (ix3 0 s d) = Spec.proj (args V) d s := by
  unfold Spec.proj Spec.gain Spec.position args
  pointwise [res_main_v32, res_main_v1]

theorem padq_at (s : Fin 2051) (d : Fin 1024) :
    (res_main_v36 V : S1x2051x1024.Idx → EReal) (ix3 0 s d)
      = Spec.past (Spec.proj (args V) ⟨d.val, by omega⟩) s.val := by
  unfold Spec.past
  rw [← Spec.sitofp_zero]
  pointwise [res_main_v36, proj_at]

theorem padk_at (s : Fin 2051) (d : Fin 1024) :
    (res_main_v50 V : S1x2051x1024.Idx → EReal) (ix3 0 s d)
      = Spec.past (Spec.proj (args V) ⟨1024 + d.val, by omega⟩) s.val := by
  unfold Spec.past
  rw [← Spec.sitofp_zero]
  pointwise [res_main_v50, proj_at]

theorem padv_at (s : Fin 2051) (d : Fin 1024) :
    (res_main_v64 V : S1x2051x1024.Idx → EReal) (ix3 0 s d)
      = Spec.past (Spec.proj (args V) ⟨2048 + d.val, by omega⟩) s.val := by
  unfold Spec.past
  rw [← Spec.sitofp_zero]
  pointwise [res_main_v64, proj_at]

theorem query_at (h : Fin 16) (s : Fin 2048) (d : Fin 64) :
    (res_main_v79 V : S1x16x2048x64.Idx → EReal) (ix4 0 h s d) = Spec.query (args V) s (Spec.col h d) := by
  refine Eq.trans ?_ (Spec.mix_sum _ _ _)
  pointwise [res_main_v79, padq_at]
  rfl

theorem key_at (h : Fin 16) (s : Fin 2048) (d : Fin 64) :
    (res_main_v81 V : S1x16x2048x64.Idx → EReal) (ix4 0 h s d) = Spec.key (args V) s (Spec.col h d) := by
  refine Eq.trans ?_ (Spec.mix_sum _ _ _)
  pointwise [res_main_v81, padk_at]
  rfl

theorem angle_at (s : Fin 2048) (d : Fin 32) :
    (res_main_v101 V : S2048x32.Idx → EReal) (ix2 s d) = Spec.angle (args V) s d.val := by
  unfold Spec.angle Spec.position args
  pointwise [res_main_v101]

theorem cos_at (s : Fin 2048) (d : Fin 32) :
    (res_main_v103 V : S1x1x2048x32.Idx → EReal) (ix4 0 0 s d) = Ideal.cos (Spec.angle (args V) s d.val) := by
  pointwise [res_main_v103, angle_at]

theorem sin_at (s : Fin 2048) (d : Fin 32) :
    (res_main_v105 V : S1x1x2048x32.Idx → EReal) (ix4 0 0 s d) = Ideal.sin (Spec.angle (args V) s d.val) := by
  pointwise [res_main_v105, angle_at]

theorem query_even (h : Fin 16) (s : Fin 2048) (d : Fin 32) :
    (res_main_v106 V : S1x16x2048x32.Idx → EReal) (ix4 0 h s d)
      = Spec.query (args V) s (Spec.col h ⟨2 * d.val, by omega⟩) := by
  pointwise [res_main_v106, query_at]

theorem query_odd (h : Fin 16) (s : Fin 2048) (d : Fin 32) :
    (res_main_v107 V : S1x16x2048x32.Idx → EReal) (ix4 0 h s d)
      = Spec.query (args V) s (Spec.col h ⟨1 + 2 * d.val, by omega⟩) := by
  pointwise [res_main_v107, query_at]

theorem key_even (h : Fin 16) (s : Fin 2048) (d : Fin 32) :
    (res_main_v122 V : S1x16x2048x32.Idx → EReal) (ix4 0 h s d)
      = Spec.key (args V) s (Spec.col h ⟨2 * d.val, by omega⟩) := by
  pointwise [res_main_v122, key_at]

theorem key_odd (h : Fin 16) (s : Fin 2048) (d : Fin 32) :
    (res_main_v123 V : S1x16x2048x32.Idx → EReal) (ix4 0 h s d)
      = Spec.key (args V) s (Spec.col h ⟨1 + 2 * d.val, by omega⟩) := by
  pointwise [res_main_v123, key_at]

end Cert.Proof.Ref

end
-- ==== Proof.Ref.Scores.lean ====
module

public import proofs.«01_k».proof.Proof.Ref.Heads
public import proofs.«01_k».proof.Proof.Spec.Words
public import proofs.«01_k».proof.Proof.Row.Weights

/-!
# The reference's masked scores
-/

@[expose] public section

noncomputable section

namespace Cert.Proof.Ref

open Cert.ReferenceIdeal Cert.ReferenceIdeal.Gen Cert.ReferenceIdeal.Value Idealize.ShloMosaic Idealize.ShloMosaic.TcCoe Idealize.ShloMosaic.StableHlo

variable (V : Valuation τ sig (Elt Ideal))

/-- The scores of a row, with minus infinity after the row's own place. -/
theorem scores_at (h : Fin 16) (s j : Fin 2048) :
    (res_main_v148 V : S1x16x2048x2048.Idx → EReal) (ix4 0 h s j) = Row.masked (Spec.score (args V) h s) s.val ⊥ j := by
  rw [← Spec.lit_bot]
  unfold Row.masked
  refine Eq.trans ?_ (Spec.lower s j _ _)
  unfold Spec.score
  simp only [← Spec.rope_pair]
  pointwise [res_main_v148, query_even, query_odd, key_even, key_odd, cos_at, sin_at]
  rfl

end Cert.Proof.Ref

end
-- ==== Proof.Ref.Keep.lean ====
module

public import Idealize.ShloMosaic.Lib.ScatterToDense.RefScatter
public import proofs.«01_k».proof.Proof.Row.Weights

/-!
# Writing a row's top entries back into an empty row

The entries that a selection `π` puts first are written at their own places over minus infinity. What stands in the
row afterwards is the entry at the chosen places and minus infinity elsewhere.
-/

@[expose] public section

noncomputable section

namespace Cert.Proof.Ref

open Idealize.ShloMosaic Idealize.ShloMosaic.ScatterToDense Idealize.ShloMosaic.LaneScatter

open Classical in
/-- Writing the first `K` entries of the order `π` of a row into a row of minus infinity. -/
theorem write_top {n K : ℕ} (s : Fin n → EReal) (π : Fin n → Fin n) (hn : n ≤ 2 ^ 32) (hK : K ≤ n)
    (word : ℕ → BitVec 32) (val : ℕ → EReal)
    (hw : ∀ k (hk : k < K), word k = BitVec.ofNat 32 (π ⟨k, hk.trans_le hK⟩).val)
    (hv : ∀ k (hk : k < K), val k = s (π ⟨k, hk.trans_le hK⟩)) (j : Fin n) :
    GS word val ⊥ j.val K = if Row.Top π K j then s j else ⊥ := by
  have hit : ∀ k (hk : k < K), j.val = (word k).toNat ↔ π ⟨k, hk.trans_le hK⟩ = j := by
    intro k hk
    rw [hw k hk, BitVec.toNat_ofNat, Nat.mod_eq_of_lt (Nat.lt_of_lt_of_le (π _).isLt hn)]
    exact ⟨fun e => Fin.ext e.symm, fun e => (congrArg Fin.val e).symm⟩
  unfold GS
  rcases lastHit_cases (fun k => j.val = (word k).toNat) val (⊥ : EReal) K with ⟨k, hk, hh, _, hval⟩ | ⟨hno, hval⟩
  · rw [hval, hv k hk]
    have e := (hit k hk).1 hh
    rw [if_pos ⟨⟨k, hk.trans_le hK⟩, hk, e⟩, e]
  · rw [hval, if_neg]
    rintro ⟨i, hi, e⟩
    exact hno i.val hi ((hit i.val hi).2 e)

end Cert.Proof.Ref

end
-- ==== Proof.Ref.TopK.lean ====
module

public import Idealize.ShloMosaic.Lib.Pointwise
public import Idealize.ShloMosaic.Lib.SortFacts
public import Idealize.ShloMosaic.PureOps.Ideal.Laws

/-!
# The top entries of a row

`jax.lax.top_k` sorts each row from its greatest entry down and keeps a beginning of the result. `order s` is the
permutation of that sort on a row `s`; it is a bijection that lists the row from the greatest entry down, and the
values and positions that `top_k` returns are read off it.
-/

@[expose] public section

noncomputable section

namespace Cert.Proof.Ref

open Idealize.ShloMosaic

variable {n0 n1 n2 n3 K : ℕ}

/-- The row's positions listed from its greatest entry down, equal entries in the order of their positions. -/
def order {n : ℕ} (s : Fin n → EReal) : Fin n → Fin n :=
  sortedFrom fun k k' => (FloatOps.cmpfTotal (F := Ideal) (φ := .f32) .gt (s k) (s k')) == 1#1

theorem order_bijective {n : ℕ} (s : Fin n → EReal) : Function.Bijective (order s) :=
  ⟨sortedFrom_injective _, sortedFrom_surjective _⟩

/-- The comparison of the sort says "strictly greater". -/
theorem greater_iff (x y : EReal) :
    ((FloatOps.cmpfTotal (F := Ideal) (φ := .f32) .gt x y) == 1#1) = decide (y < x) := by
  show ((Ideal.cmpTotal .gt x y) == 1#1) = decide (y < x)
  by_cases h : y < x <;> simp [Ideal.cmpTotal, Ideal.cmp, CmpDirection.ordered, h]

/-- Further down the list the entries do not grow. -/
theorem order_antitone {n : ℕ} (s : Fin n → EReal) (i j : Fin n) (hij : i < j) :
    s (order s j) ≤ s (order s i) := by
  have h := sortedFrom_noInversion (fun k k' => decide (s k' < s k))
    (fun k k' => (FloatOps.cmpfTotal (F := Ideal) (φ := .f32) .gt (s k) (s k')) == 1#1)
    (fun a b hab => by
      rw [greater_iff] at hab
      simp only [decide_eq_true_eq, decide_eq_false_iff_not] at hab ⊢
      exact hab.le.not_gt)
    (fun a b hab => by rw [greater_iff]; exact hab)
    (fun a b c hab hbc => by
      simp only [decide_eq_false_iff_not, not_lt] at hab hbc ⊢
      exact hab.trans hbc) i j hij
  simp only [decide_eq_false_iff_not, not_lt] at h
  exact h

/-- An index of four coordinates with its last one replaced. -/
theorem along_last (a : Fin n0) (b : Fin n1) (c : Fin n2) (d k : Fin n3) (h : 3 < 4) :
    (ix4 a b c d).along ⟨3, h⟩ k = ix4 a b c k := by
  funext x
  match x with
  | ⟨0, _⟩ => rfl
  | ⟨1, _⟩ => rfl
  | ⟨2, _⟩ => rfl
  | ⟨3, _⟩ => rfl

/-- The beginning of every row, read at an index. -/
theorem beginning {α : Type} (f : (⟨4, ![n0, n1, n2, n3]⟩ : Shape).Idx → α)
    (hs : (⟨4, ![n0, n1, n2, n3]⟩ : Shape).Slices (fun _ => 0) ⟨4, ![n0, n1, n2, K]⟩) (hK : K ≤ n3)
    (a : Fin n0) (b : Fin n1) (c : Fin n2) (k : Fin K) :
    extractStridedSlice ⟨4, ![n0, n1, n2, K]⟩ (fun _ => 0) f hs (ix4 a b c k) = f (ix4 a b c (k.castLE hK)) :=
  congrArg f (funext fun x => Fin.ext (by
    match x with
    | ⟨0, _⟩ => exact Nat.zero_add _
    | ⟨1, _⟩ => exact Nat.zero_add _
    | ⟨2, _⟩ => exact Nat.zero_add _
    | ⟨3, _⟩ => exact Nat.zero_add _))

/-- The `k`-th value that `top_k` returns for a row. -/
theorem topK_value (X : FVec Ideal ⟨4, ![n0, n1, n2, n3]⟩ .f32)
    (hs : (⟨4, ![n0, n1, n2, n3]⟩ : Shape).Slices (fun _ => 0) ⟨4, ![n0, n1, n2, K]⟩) (hK : K ≤ n3)
    (a : Fin n0) (b : Fin n1) (c : Fin n2) (k : Fin K) :
    (Host.topK ⟨4, ![n0, n1, n2, K]⟩ 3 (FloatOps.cmpfTotal .gt) X hs).1 (ix4 a b c k)
      = X (ix4 a b c (order (fun j => X (ix4 a b c j)) (k.castLE hK))) := by
  unfold Host.topK
  dsimp only
  rw [beginning _ hs hK a b c k]
  have h3 : 3 < (⟨4, ![n0, n1, n2, n3]⟩ : Shape).rank := Nat.lt_succ_self 3
  unfold Host.sort2
  have hal : (fun j : Fin n3 => (ix4 a b c (Fin.castLE hK k)).along ⟨3, h3⟩ j) = fun j => ix4 a b c j :=
    funext fun j => along_last a b c _ j h3
  simp only [dif_pos h3]
  exact congrArg (fun g : Fin n3 → (⟨4, ![n0, n1, n2, n3]⟩ : Shape).Idx => X (g
    (sortedFrom (fun j j' => (FloatOps.cmpfTotal (F := Ideal) (φ := .f32) .gt (X (g j)) (X (g j'))) == 1#1)
      (k.castLE hK)))) hal

/-- The `k`-th position that `top_k` returns for a row, as a word. -/
theorem topK_position (X : FVec Ideal ⟨4, ![n0, n1, n2, n3]⟩ .f32)
    (hs : (⟨4, ![n0, n1, n2, n3]⟩ : Shape).Slices (fun _ => 0) ⟨4, ![n0, n1, n2, K]⟩) (hK : K ≤ n3)
    (a : Fin n0) (b : Fin n1) (c : Fin n2) (k : Fin K) :
    (Host.topK ⟨4, ![n0, n1, n2, K]⟩ 3 (FloatOps.cmpfTotal .gt) X hs).2 (ix4 a b c k)
      = BitVec.ofNat 32 (order (fun j => X (ix4 a b c j)) (k.castLE hK)).val := by
  unfold Host.topK
  dsimp only
  rw [beginning _ hs hK a b c k]
  have h3 : 3 < (⟨4, ![n0, n1, n2, n3]⟩ : Shape).rank := Nat.lt_succ_self 3
  unfold Host.sort2
  have hal : (fun j : Fin n3 => (ix4 a b c (Fin.castLE hK k)).along ⟨3, h3⟩ j) = fun j => ix4 a b c j :=
    funext fun j => along_last a b c _ j h3
  simp only [dif_pos h3]
  exact congrArg (fun g : Fin n3 → (⟨4, ![n0, n1, n2, n3]⟩ : Shape).Idx => iotaInDim ⟨4, ![n0, n1, n2, n3]⟩ 32 ⟨3, h3⟩ (g
    (sortedFrom (fun j j' => (FloatOps.cmpfTotal (F := Ideal) (φ := .f32) .gt (X (g j)) (X (g j'))) == 1#1)
      (k.castLE hK)))) hal

end Cert.Proof.Ref

end
-- ==== Proof.Ref.Sparse.lean ====
module

public import proofs.«01_k».proof.Proof.Ref.Scores
public import proofs.«01_k».proof.Proof.Ref.Keep
public import proofs.«01_k».proof.Proof.Ref.TopK

/-!
# The reference's scores with all but the top entries of each row removed
-/

@[expose] public section

noncomputable section

namespace Cert.Proof.Ref

open Cert.ReferenceIdeal Cert.ReferenceIdeal.Gen Cert.ReferenceIdeal.Value Idealize.ShloMosaic Idealize.ShloMosaic.TcCoe Idealize.ShloMosaic.StableHlo

variable (V : Valuation τ sig (Elt Ideal))

/-- The places the scatter writes to. -/
def places : IVec S32768x204x2 32 :=
  concatenate S32768x204x2 2 [⟨S32768x204x1, (broadcastInDim S32768x204x1 ![0, 1] bcast_S32768x204_S32768x204x1_0_1 (broadcastInDim S32768x204 ![0, 1] bcast_S32768x1_S32768x204_0_1 (select (cmpi .slt (res_main_v151 V) (broadcastInDim S32768x1 ![] bcast_S_S32768x1 (constantI S_ 32 0#32))) (addi (res_main_v151 V) (broadcastInDim S32768x1 ![] bcast_S_S32768x1 (constantI S_ 32 32768#32))) (res_main_v151 V))))⟩, ⟨S32768x204x1, (broadcastInDim S32768x204x1 ![0, 1] bcast_S32768x204_S32768x204x1_0_1 (select (cmpi .slt (res_main_v152 V) (broadcastInDim S32768x204 ![] bcast_S_S32768x204 (constantI S_ 32 0#32))) (addi (res_main_v152 V) (broadcastInDim S32768x204 ![] bcast_S_S32768x204 (constantI S_ 32 2048#32))) (res_main_v152 V)))⟩] concatenates_S32768x204x1_S32768x204x1_S32768x204x2_d2

/-- The values the scatter writes. -/
def values : FVec Ideal S32768x204 .f32 :=
  shapeCast _ ((Host.topK S1x16x2048x204 3 (FloatOps.cmpfTotal .gt) (res_main_v148 V) sliceFits_S1x16x2048x2048_S1x16x2048x204).1) shapeCasts_S1x16x2048x204_S32768x204

/-- A position that is not negative is left as it is. -/
theorem keep_nonneg {n : ℕ} (hn : n < 2 ^ 31) (w : BitVec 32) :
    Scalar.select (IntOp.cmpi .slt (BitVec.ofNat 32 n) 0#32) w (BitVec.ofNat 32 n) = BitVec.ofNat 32 n := by
  have h0 : (0#32 : BitVec 32) = BitVec.ofNat 32 0 := rfl
  rw [h0, WordCmp.cmpi_slt_ofNat (by omega) (by omega), WordCmp.select_decide, if_neg (by omega)]

/-- Row `i` of the flattened scores. -/
def row (i : Fin 32768) (j : Fin 2048) : EReal :=
  (res_main_v148 V : S1x16x2048x2048.Idx → EReal) (ix4 0 ⟨i.val / 2048, by omega⟩ ⟨i.val % 2048, by omega⟩ j)

theorem places_row (i : Fin 32768) (k : Fin 204) : places V (ix3 i k 0) = BitVec.ofNat 32 i.val := by
  refine Eq.trans ?_ (keep_nonneg (by omega) (IntOp.addi (BitVec.ofNat 32 i.val) 32768#32))
  pointwise [places, res_main_v151]

theorem position_at (i : Fin 32768) (k : Fin 204) :
    (res_main_v152 V : S32768x204.Idx → BitVec 32) (ix2 i k) = BitVec.ofNat 32 (order (row V i) (k.castLE (by omega))).val := by
  unfold res_main_v152
  generalize hR : (Host.topK S1x16x2048x204 3 (FloatOps.cmpfTotal .gt) (res_main_v148 V) sliceFits_S1x16x2048x2048_S1x16x2048x204).2 = R
  pointwise
  rw [← hR, topK_position _ _ (by omega)]
  rfl

theorem values_at (i : Fin 32768) (k : Fin 204) : values V (ix2 i k) = row V i (order (row V i) (k.castLE (by omega))) := by
  unfold values
  generalize hR : (Host.topK S1x16x2048x204 3 (FloatOps.cmpfTotal .gt) (res_main_v148 V) sliceFits_S1x16x2048x2048_S1x16x2048x204).1 = R
  pointwise
  rw [← hR, topK_value _ _ (by omega)]
  rfl

theorem places_column (i : Fin 32768) (k : Fin 204) :
    places V (ix3 i k 1) = BitVec.ofNat 32 (order (row V i) (k.castLE (by omega))).val := by
  refine Eq.trans ?_ (keep_nonneg (by omega) (IntOp.addi (BitVec.ofNat 32 (order (row V i) (k.castLE (by omega))).val) 2048#32))
  pointwise [places, position_at]

open Classical in
/-- The flattened scores after the scatter. -/
theorem scatter_at (X : FVec Ideal S32768x2048 .f32) (hX : ∀ i, X i = ⊥) (i : Fin 32768) (j : Fin 2048) :
    Host.scatter scatter_S32768x2048_S32768x204x2_S32768x204_n_01_01_2 (fun _ b => b) X (places V) (values V) (ix2 i j)
      = if Row.Top (order (row V i)) 204 j then row V i j else ⊥ := by
  refine (ScatterToDense.scatter_eq_GS scatter_S32768x2048_S32768x204x2_S32768x204_n_01_01_2 rfl rfl rfl (by norm_num) (by norm_num) X
    (places V) (values V)
    (fun i k => if hk : k < 204 then BitVec.ofNat 32 (order (row V i) ⟨k, by omega⟩).val else 0#32)
    (fun i k => if hk : k < 204 then row V i (order (row V i) ⟨k, by omega⟩) else ⊥)
    (places_row V)
    (fun i k => (places_column V i k).trans (by rw [dif_pos k.isLt]; rfl))
    (fun i k => (values_at V i k).trans (by rw [dif_pos k.isLt]; rfl)) i j).trans ?_
  rw [hX]
  exact write_top _ _ (by norm_num) (by norm_num) _ _ (fun k hk => dif_pos hk) (fun k hk => dif_pos hk) j

/-- The scores that are left. -/
theorem sparse_at (h : Fin 16) (s j : Fin 2048) :
    (res_main_v171 V : S1x16x2048x2048.Idx → EReal) (ix4 0 h s j)
      = Row.kept (Spec.score (args V) h s) s.val 204 (order (Row.masked (Spec.score (args V) h s) s.val ⊥)) j := by
  have hrow : row V ⟨h.val * 2048 + s.val, by omega⟩ = Row.masked (Spec.score (args V) h s) s.val ⊥ := by
    funext j
    unfold row
    rw [← scores_at]
    congr 2 <;> exact Fin.ext (by simp only []; omega)
  have e : (res_main_v171 V : S1x16x2048x2048.Idx → EReal) (ix4 0 h s j)
      = Ideal.div (Host.scatter scatter_S32768x2048_S32768x204x2_S32768x204_n_01_01_2 (fun _ b => b)
          (broadcastInDim S32768x2048 ![] bcast_S_S32768x2048 (constant (F := Ideal) S_ .f32 0xFF800000#32)) (places V) (values V)
          (ix2 ⟨h.val * 2048 + s.val, by omega⟩ j)) 1 := by
    unfold res_main_v171
    generalize hR : Host.scatter scatter_S32768x2048_S32768x204x2_S32768x204_n_01_01_2 (fun _ b => b) _ _ _ = R
    have hR' : Host.scatter scatter_S32768x2048_S32768x204x2_S32768x204_n_01_01_2 (fun _ b => b)
          (broadcastInDim S32768x2048 ![] bcast_S_S32768x2048 (constant (F := Ideal) S_ .f32 0xFF800000#32)) (places V) (values V) = R := hR
    rw [hR']
    pointwise
  rw [e, Spec.div_one]
  refine (scatter_at V (broadcastInDim S32768x2048 ![] bcast_S_S32768x2048 (constant (F := Ideal) S_ .f32 0xFF800000#32))
    (fun _ => Spec.lit_bot) _ j).trans ?_
  rw [hrow]
  unfold Row.kept
  rfl

end Cert.Proof.Ref

end
-- ==== Proof.Ref.Fold.lean ====
module

public import Idealize.ShloMosaic.Lib.Pointwise
public import Idealize.ShloMosaic.PureOps.Ideal.Laws

/-!
# A reduction over the last of four axes, read at an index

The sizes are variables here: at the literal sizes of the programs the same statements would be checked by
enumerating arrays of many thousands of entries.
-/

@[expose] public section

noncomputable section

namespace Cert.Proof.Ref

open Idealize.ShloMosaic

variable {n0 n1 n2 n3 : ℕ} {u : Shape}

/-- The greatest entry of a row: a `max` reduction over the last axis is the fold of `max` over that axis. -/
theorem max_row (X : FVec Ideal ⟨4, ![n0, n1, n2, n3]⟩ .f32) (Z : FVec Ideal u .f32)
    (h : (⟨4, ![n0, n1, n2, n3]⟩ : Shape).ReducesTo [3] ⟨3, ![n0, n1, n2]⟩) (hu : 0 < u.numel)
    (a : Fin n0) (b : Fin n1) (c : Fin n2) :
    Host.reduce FloatOps.maximumf X Z h hu (ix3 a b c)
      = (Finset.univ : Finset (Fin n3)).fold max (Z (Shape.Idx.first hu)) (fun j => X (ix4 a b c j)) := by
  pointwise

/-- The least entry of a row: a `min` reduction over the last axis is the fold of `min` over that axis. -/
theorem min_row (X : FVec Ideal ⟨4, ![n0, n1, n2, n3]⟩ .f32) (Z : FVec Ideal u .f32)
    (h : (⟨4, ![n0, n1, n2, n3]⟩ : Shape).ReducesTo [3] ⟨3, ![n0, n1, n2]⟩) (hu : 0 < u.numel)
    (a : Fin n0) (b : Fin n1) (c : Fin n2) :
    Host.reduce FloatOps.minimumf X Z h hu (ix3 a b c)
      = (Finset.univ : Finset (Fin n3)).fold min (Z (Shape.Idx.first hu)) (fun j => X (ix4 a b c j)) := by
  pointwise

/-- `max_row` from a literal. -/
theorem max_row_lit (X : FVec Ideal ⟨4, ![n0, n1, n2, n3]⟩ .f32) (b : BitVec 32)
    (h : (⟨4, ![n0, n1, n2, n3]⟩ : Shape).ReducesTo [3] ⟨3, ![n0, n1, n2]⟩) (hu : 0 < u.numel)
    (a : Fin n0) (e : Fin n1) (c : Fin n2) :
    Host.reduce FloatOps.maximumf X (constant u .f32 b) h hu (ix3 a e c)
      = (Finset.univ : Finset (Fin n3)).fold max (Ideal.ofBits .f32 b) (fun j => X (ix4 a e c j)) :=
  max_row X _ h hu a e c

/-- `min_row` from a literal. -/
theorem min_row_lit (X : FVec Ideal ⟨4, ![n0, n1, n2, n3]⟩ .f32) (b : BitVec 32)
    (h : (⟨4, ![n0, n1, n2, n3]⟩ : Shape).ReducesTo [3] ⟨3, ![n0, n1, n2]⟩) (hu : 0 < u.numel)
    (a : Fin n0) (e : Fin n1) (c : Fin n2) :
    Host.reduce FloatOps.minimumf X (constant u .f32 b) h hu (ix3 a e c)
      = (Finset.univ : Finset (Fin n3)).fold min (Ideal.ofBits .f32 b) (fun j => X (ix4 a e c j)) :=
  min_row X _ h hu a e c

/-- The sum of a row: an `add` reduction over the last axis, from its initial value. -/
theorem add_row (X : FVec Ideal ⟨4, ![n0, n1, n2, n3]⟩ .f32) (Z : FVec Ideal u .f32)
    (h : (⟨4, ![n0, n1, n2, n3]⟩ : Shape).ReducesTo [3] ⟨3, ![n0, n1, n2]⟩) (hu : 0 < u.numel)
    (a : Fin n0) (b : Fin n1) (c : Fin n2) :
    Host.reduceAdd X Z h hu (ix3 a b c) = Z (Shape.Idx.first hu) + ∑ j : Fin n3, X (ix4 a b c j) := by
  pointwise

/-- `add_row` from zero. -/
theorem add_row_zero (X : FVec Ideal ⟨4, ![n0, n1, n2, n3]⟩ .f32)
    (h : (⟨4, ![n0, n1, n2, n3]⟩ : Shape).ReducesTo [3] ⟨3, ![n0, n1, n2]⟩) (hu : 0 < u.numel)
    (a : Fin n0) (b : Fin n1) (c : Fin n2) :
    Host.reduceAdd X (constant u .f32 0x00000000#32) h hu (ix3 a b c) = ∑ j : Fin n3, X (ix4 a b c j) := by
  pointwise

/-- The sum over the last of five axes, from zero. -/
theorem add_row5 {n4 : ℕ} (X : FVec Ideal ⟨5, ![n0, n1, n2, n3, n4]⟩ .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduceAdd X (constant u .f32 0x00000000#32) h hu (ix4 a b c d) = ∑ j : Fin n4, X (ix5 a b c d j) := by
  pointwise

end Cert.Proof.Ref

end
-- ==== Proof.Ref.Value.lean ====
module

public import proofs.«01_k».proof.Proof.Ref.Sparse
public import proofs.«01_k».proof.Proof.Ref.Fold

/-!
# The reference's result, read at an index
-/

@[expose] public section

noncomputable section

namespace Cert.Proof.Ref

open Cert.ReferenceIdeal Cert.ReferenceIdeal.Gen Cert.ReferenceIdeal.Value Idealize.ShloMosaic Idealize.ShloMosaic.TcCoe Idealize.ShloMosaic.StableHlo

variable (V : Valuation τ sig (Elt Ideal))

/-- The exponentials of a row's scores, each less the row's greatest. -/
def soft (X : FVec Ideal S1x16x2048x2048 .f32) : FVec Ideal S1x16x2048x2048 .f32 :=
  Host.exp (subf X (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) (Host.reduce FloatOps.maximumf X (constant S_ .f32 0xFF800000#32) reducesTo_S1x16x2048x2048_S1x16x2048_d3 h_S_)))))

theorem soft_eq : res_main_v178 V = soft (res_main_v171 V) := rfl

theorem greatest_at (X : FVec Ideal S1x16x2048x2048 .f32) (h : Fin 16) (s : Fin 2048) :
    Host.reduce FloatOps.maximumf X (constant S_ .f32 0xFF800000#32) reducesTo_S1x16x2048x2048_S1x16x2048_d3 h_S_ (ix3 0 h s)
      = Row.top fun i => X (ix4 0 h s i) := by
  rw [max_row_lit]
  unfold Row.top
  rw [Spec.lit_bot]

theorem shifted_at (X : FVec Ideal S1x16x2048x2048 .f32) (R : FVec Ideal S1x16x2048 .f32) (h : Fin 16) (s j : Fin 2048) :
    Host.exp (subf X (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) R)))) (ix4 0 h s j)
      = Ideal.exp (X (ix4 0 h s j) - max (Ideal.ofBits .f32 4286578688#32) (R (ix3 0 h s))) := by
  pointwise

theorem soft_at (X : FVec Ideal S1x16x2048x2048 .f32) (h : Fin 16) (s j : Fin 2048) :
    soft X (ix4 0 h s j) = Ideal.exp (X (ix4 0 h s j) - Row.top fun i => X (ix4 0 h s i)) := by
  unfold soft
  rw [shifted_at, greatest_at, Spec.lit_bot, max_eq_right bot_le]

/-- The reference's weights, before they are divided by their sum. -/
def weights (A : Spec.Args) (h : Fin 16) (s : Fin 2048) : Fin 2048 → EReal :=
  Row.refWeight (Spec.score A h s) s.val 204 (order (Row.masked (Spec.score A h s) s.val ⊥))

theorem weights_at (h : Fin 16) (s j : Fin 2048) :
    (res_main_v178 V : S1x16x2048x2048.Idx → EReal) (ix4 0 h s j) = weights (args V) h s j := by
  rw [soft_eq, soft_at]
  unfold weights Row.refWeight
  rw [sparse_at]
  congr 2
  exact congrArg Row.top (funext fun i => sparse_at V h s i)

/-- The weights divided by their row's sum. -/
def normed (X : FVec Ideal S1x16x2048x2048 .f32) : FVec Ideal S1x16x2048x2048 .f32 :=
  Host.divf X (broadcastInDim S1x16x2048x2048 ![0, 1, 2, 3] bcast_S1x16x2048x1_S1x16x2048x2048_0_1_2_3 (broadcastInDim S1x16x2048x1 ![0, 1, 2] bcast_S1x16x2048_S1x16x2048x1_0_1_2 (Host.reduceAdd X (constant S_ .f32 0x00000000#32) reducesTo_S1x16x2048x2048_S1x16x2048_d3 h_S_)))

theorem total_at (X : FVec Ideal S1x16x2048x2048 .f32) (h : Fin 16) (s : Fin 2048) :
    Host.reduceAdd X (constant S_ .f32 0x00000000#32) reducesTo_S1x16x2048x2048_S1x16x2048_d3 h_S_ (ix3 0 h s)
      = ∑ i : Fin 2048, X (ix4 0 h s i) := by
  rw [add_row_zero]

theorem divided_at (X : FVec Ideal S1x16x2048x2048 .f32) (R : FVec Ideal S1x16x2048 .f32) (h : Fin 16) (s j : Fin 2048) :
    Host.divf X (broadcastInDim S1x16x2048x2048 ![0, 1, 2, 3] bcast_S1x16x2048x1_S1x16x2048x2048_0_1_2_3 (broadcastInDim S1x16x2048x1 ![0, 1, 2] bcast_S1x16x2048_S1x16x2048x1_0_1_2 R)) (ix4 0 h s j)
      = Ideal.div (X (ix4 0 h s j)) (R (ix3 0 h s)) := by
  pointwise

theorem normed_at (X : FVec Ideal S1x16x2048x2048 .f32) (h : Fin 16) (s j : Fin 2048) :
    normed X (ix4 0 h s j) = Ideal.div (X (ix4 0 h s j)) (∑ i : Fin 2048, X (ix4 0 h s i)) := by
  unfold normed
  rw [divided_at, total_at]

/-- The values after the mixing with the rows before them. -/
def mixedValues : FVec Ideal S1x2048x1024 .f32 :=
  Host.reduceAdd (mulf ((concatenate S1x2048x1024x4 3 [⟨S1x2048x1024x1, ((broadcastInDim S1x2048x1024x1 ![0, 1, 2] bcast_S1x2048x1024_S1x2048x1024x1_0_1_2 (extractStridedSlice S1x2048x1024 ![0, 0, 0] (res_main_v64 V) slices_S1x2051x1024_S1x2048x1024_0_0_0)) : (⟨S1x2048x1024x1, .f32⟩ : BufTy).Contents (Elt Ideal))⟩, ⟨S1x2048x1024x1, ((broadcastInDim S1x2048x1024x1 ![0, 1, 2] bcast_S1x2048x1024_S1x2048x1024x1_0_1_2 (extractStridedSlice S1x2048x1024 ![0, 1, 0] (res_main_v64 V) slices_S1x2051x1024_S1x2048x1024_0_1_0)) : (⟨S1x2048x1024x1, .f32⟩ : BufTy).Contents (Elt Ideal))⟩, ⟨S1x2048x1024x1, ((broadcastInDim S1x2048x1024x1 ![0, 1, 2] bcast_S1x2048x1024_S1x2048x1024x1_0_1_2 (extractStridedSlice S1x2048x1024 ![0, 2, 0] (res_main_v64 V) slices_S1x2051x1024_S1x2048x1024_0_2_0)) : (⟨S1x2048x1024x1, .f32⟩ : BufTy).Contents (Elt Ideal))⟩, ⟨S1x2048x1024x1, ((broadcastInDim S1x2048x1024x1 ![0, 1, 2] bcast_S1x2048x1024_S1x2048x1024x1_0_1_2 (extractStridedSlice S1x2048x1024 ![0, 3, 0] (res_main_v64 V) slices_S1x2051x1024_S1x2048x1024_0_3_0)) : (⟨S1x2048x1024x1, .f32⟩ : BufTy).Contents (Elt Ideal))⟩] concatenates_S1x2048x1024x1_S1x2048x1024x1_S1x2048x1024x1_S1x2048x1024x1_S1x2048x1024x4_d3 : (⟨S1x2048x1024x4, .f32⟩ : BufTy).Contents (Elt Ideal))) (broadcastInDim S1x2048x1024x4 ![0, 1, 2, 3] bcast_S1x1x1x4_S1x2048x1024x4_0_1_2_3 (shapeCast _ (V (Proc.devRef .tc main_arg7)) shapeCasts_S4_S1x1x1x4))) (constant S_ .f32 0x00000000#32) reducesTo_S1x2048x1024x4_S1x2048x1024_d3 h_S_

theorem value_at (s : Fin 2048) (d : Fin 1024) : mixedValues V (ix3 0 s d) = Spec.val (args V) s d := by
  refine Eq.trans ?_ (Spec.mix_sum _ _ _)
  pointwise [mixedValues, padv_at]
  rfl

/-- Every head's output, from the divided weights and the values. -/
def attended (N : FVec Ideal S1x16x2048x2048 .f32) (M : FVec Ideal S1x2048x1024 .f32) : FVec Ideal S16x2048x64 .f32 :=
  Host.dotGeneral dot_S16x2048x2048_S16x2048x64_S16x2048x64_2_1_1_2_0_0 none (shapeCast _ N shapeCasts_S1x16x2048x2048_S16x2048x2048) (shapeCast _ (transpose S1x16x2048x64 [0, 2, 1, 3] (shapeCast _ M shapeCasts_S1x2048x1024_S1x2048x16x64) transposes_S1x2048x16x64_S1x16x2048x64_0_2_1_3) shapeCasts_S1x16x2048x64_S16x2048x64)

theorem attended_at (N : FVec Ideal S1x16x2048x2048 .f32) (M : FVec Ideal S1x2048x1024 .f32) (h : Fin 16) (s : Fin 2048) (e : Fin 64) :
    attended N M (ix3 h s e) = ∑ j : Fin 2048, N (ix4 0 h s j) * M (ix3 0 j (Spec.col h e)) := by
  unfold Spec.col
  pointwise [attended]

/-- The output projection of the heads' outputs. -/
def projected (T : FVec Ideal S16x2048x64 .f32) (W : FVec Ideal S1024x1024 .f32) (B : FVec Ideal S1024 .f32) : FVec Ideal S1x2048x1024 .f32 :=
  addf (Host.dotGeneral (φ₁ := .f32) (φ₂ := .f32) dot_S1x2048x1024_S1024x1024_S1x2048x1024_2_0_01_1_n_n none (shapeCast _ (transpose S1x2048x16x64 [0, 2, 1, 3] (broadcastInDim S1x16x2048x64 ![1, 2, 3] bcast_S16x2048x64_S1x16x2048x64_1_2_3 T) transposes_S1x16x2048x64_S1x2048x16x64_0_2_1_3) shapeCasts_S1x2048x16x64_S1x2048x1024) (transpose S1024x1024 [1, 0] W transposes_S1024x1024_S1024x1024_1_0)) (broadcastInDim S1x2048x1024 ![0, 1, 2] bcast_S1x1x1024_S1x2048x1024_0_1_2 (broadcastInDim S1x1x1024 ![2] bcast_S1024_S1x1x1024_2 B))

theorem projected_at (T : FVec Ideal S16x2048x64 .f32) (W : FVec Ideal S1024x1024 .f32) (B : FVec Ideal S1024 .f32) (s : Fin 2048) (c : Fin 1024) :
    projected T W B (ix3 0 s c)
      = (∑ d : Fin 1024, T (ix3 ⟨d.val / 64, by omega⟩ s ⟨d.val % 64, by omega⟩) * W (ix2 c d)) + B (ix1 c) := by
  pointwise [projected]

/-- The reference's result. -/
def out : FVec Ideal S1x2048x1024 .f32 :=
  projected (attended (normed (res_main_v178 V)) (mixedValues V)) (args V).wproj (args V).bproj

theorem out_at (s : Fin 2048) (c : Fin 1024) :
    out V (ix3 0 s c) = Spec.result (args V) (fun h => weights (args V) h s) c := by
  unfold out Spec.result Spec.attend
  rw [projected_at]
  simp only [attended_at, normed_at, weights_at, value_at]

end Cert.Proof.Ref

end
-- ==== Proof.Ref.Run.lean ====
module

public import proofs.«01_k».proof.Proof.Ref.Value

/-!
# Every run of the reference
-/

@[expose] public section

noncomputable section

namespace Cert.Proof.Ref

open Cert.ReferenceIdeal Cert.ReferenceIdeal.Gen Cert.ReferenceIdeal.Value Idealize.ShloMosaic Idealize.ShloMosaic.TcCoe Idealize.ShloMosaic.StableHlo
open Idealize.SL.Sem

/-- Every run of the reference ends with `out` of its arguments in the result and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v193) = out (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1, (h c).2⟩) (Value.run (F := Ideal) m ρ)

end Cert.Proof.Ref

end
-- ==== Proof.Ref.Mask.lean ====
module

public import proofs.«01_k».proof.On_separated_rows
public import proofs.«01_k».proof.Proof.Ref.Scores
public import proofs.«01_k».proof.Proof.Ref.Fold
public import proofs.«01_k».proof.Proof.Ref.TopK
public import Idealize.ShloMosaic.Lib.ReduceAll
public import Idealize.ShloMosaic.Lib.Decide

/-!
# The rows the claim speaks of

What `separated_rows` says of a row where it is true: in every head the row's least score is above the kernel's mask
value, and either the row has at most as many entries as are kept or its last kept score lies above the first dropped
one by more than the row's range divided by two to the power of 24.
-/

@[expose] public section

noncomputable section

namespace Cert.Proof.Mask

open Cert.On_separated_rows Idealize.ShloMosaic

/-- The shape relations that the operations of `separated_rows` take. -/
instance facts : Cert.On_separated_rows.Facts := by
  constructor <;> decide

open Cert.On_separated_rows.Facts

/-- "Strictly greater", as a word. -/
theorem greater_one (x y : EReal) : FloatOps.cmpf (F := Ideal) (φ := .f32) .ogt x y = 1#1 ↔ y < x := by
  show Ideal.cmp .ogt x y = 1#1 ↔ y < x
  by_cases h : y < x <;> simp [Ideal.cmp, CmpDirection.ordered, h]

/-- One word per row, spread over the row's columns. -/
theorem spread (R : IVec S1x2048 1) (s : Fin 2048) (c : Fin 1024) :
    broadcastInDim S1x2048x1024 ![0, 1, 2] bcast_S1x2048x1_S1x2048x1024_0_1_2 (broadcastInDim S1x2048x1 ![0, 1] bcast_S1x2048_S1x2048x1_0_1 R) (ix3 0 s c)
      = R (ix2 0 s) := by
  pointwise

/-- The test of one head of one row. -/
theorem test_at (l g : FVec Ideal S1x16x2048 .f32) (r : IVec S1x1x2048 1) (w : FVec Ideal S1x16x2048 .f32) (b z : BitVec 32)
    (s : Fin 2048) (h : Fin 16) :
    andi (cmpf .ogt l (broadcastInDim S1x16x2048 ![] bcast_S_S1x16x2048 (constant S_ .f32 b)))
        (ori (broadcastInDim S1x16x2048 ![0, 1, 2] bcast_S1x1x2048_S1x16x2048_0_1_2 r)
          (cmpf .ogt g (mulf w (broadcastInDim S1x16x2048 ![] bcast_S_S1x16x2048 (constant S_ .f32 z))))) (ix3 0 h s)
      = IntOp.andi (FloatOps.cmpf (F := Ideal) (φ := .f32) .ogt (l (ix3 0 h s)) (Ideal.ofBits .f32 b))
          (IntOp.ori (r (ix3 0 0 s)) (FloatOps.cmpf (F := Ideal) (φ := .f32) .ogt (g (ix3 0 h s)) (w (ix3 0 h s) * Ideal.ofBits .f32 z))) := by
  pointwise

/-- The test is passed in every head of a row where the whole is true. -/
theorem part8_at (l g : FVec Ideal S1x16x2048 .f32) (r : IVec S1x1x2048 1) (w : FVec Ideal S1x16x2048 .f32) (z : BitVec 32)
    (s : Fin 2048) (c : Fin 1024) (H : fn_part8 (F := Ideal) l g r w (constant S_ .f32 z) (ix3 0 s c) = 1#1) (h : Fin 16) :
    Ideal.ofBits .f32 0xFF7FFFFF#32 < l (ix3 0 h s) ∧ (r (ix3 0 0 s) = 1#1 ∨ w (ix3 0 h s) * Ideal.ofBits .f32 z < g (ix3 0 h s)) := by
  unfold fn_part8 at H
  dsimp only at H
  rw [spread] at H
  have H1 := Host.reduce_andi_eq_one _ _ _ _ _ H (ix3 0 h s) (by funext a; match a with | ⟨0, _⟩ => rfl | ⟨1, _⟩ => rfl)
  rw [test_at] at H1
  have word : ∀ a b d : BitVec 1, IntOp.andi a (IntOp.ori b d) = 1#1 → a = 1#1 ∧ (b = 1#1 ∨ d = 1#1) := by decide
  obtain ⟨h1, h2⟩ := word _ _ _ H1
  exact ⟨(greater_one _ _).1 h1, h2.imp id (greater_one _ _).1⟩

/-- The scores with a literal after the row's own place. -/
theorem masked_at (X : FVec Ideal S1x16x2048x2048 .f32) (z : BitVec 32) (h : Fin 16) (s j : Fin 2048) :
    fn_where (F := Ideal) (broadcastInDim S1x1x2048x2048 ![2, 3] bcast_S2048x2048_S1x1x2048x2048_2_3
        (fn_tril (F := Ideal) (broadcastInDim S2048x2048 ![] bcast_S_S2048x2048 (constantI S_ 1 1#1)))) X (constant S_ .f32 z) (ix4 0 h s j)
      = Row.masked (fun j => X (ix4 0 h s j)) s.val (Ideal.ofBits .f32 z) j := by
  unfold Row.masked
  refine Eq.trans ?_ (Spec.lower s j _ _)
  pointwise [fn_where, fn_tril]
  rfl

/-- The last kept entry less the first dropped one. -/
theorem gap_at (X : FVec Ideal S1x16x2048x205 .f32) (h : Fin 16) (s : Fin 2048) :
    subf (shapeCast S1x16x2048 (extractStridedSlice S1x16x2048x1 ![0, 0, 0, 203] X slices_S1x16x2048x205_S1x16x2048x1_0_0_0_203) shapeCasts_S1x16x2048x1_S1x16x2048)
      (shapeCast S1x16x2048 (extractStridedSlice S1x16x2048x1 ![0, 0, 0, 204] X slices_S1x16x2048x205_S1x16x2048x1_0_0_0_204) shapeCasts_S1x16x2048x1_S1x16x2048) (ix3 0 h s)
      = X (ix4 0 h s 203) - X (ix4 0 h s 204) := by
  pointwise

/-- The rows with at most as many entries as are kept. -/
theorem early_at (s : Fin 2048) :
    cmpi .slt (broadcastInDim S1x1x2048 ![2] bcast_S2048_S1x1x2048_2 (iotaInDim S2048 32 0)) (broadcastInDim S1x1x2048 ![] bcast_S_S1x1x2048 (constantI S_ 32 204#32)) (ix3 0 0 s) = 1#1
      ↔ s.val < 204 := by
  have e : cmpi .slt (broadcastInDim S1x1x2048 ![2] bcast_S2048_S1x1x2048_2 (iotaInDim S2048 32 0)) (broadcastInDim S1x1x2048 ![] bcast_S_S1x1x2048 (constantI S_ 32 204#32)) (ix3 0 0 s)
      = IntOp.cmpi .slt (BitVec.ofNat 32 s.val) (BitVec.ofNat 32 204) := by
    pointwise
  rw [e, WordCmp.cmpi_slt_ofNat (by omega) (by omega), Spec.ofBool_one]

/-- What is asked of the scores of a row in one head. -/
def Separated (x : Fin 2048 → EReal) (s : Fin 2048) : Prop :=
  Ideal.ofBits .f32 0xFF7FFFFF#32 < Row.bot (Row.masked x s.val ⊤)
    ∧ (s.val < 204 ∨ Row.Apart x s.val (Ref.order (Row.masked x s.val ⊥)) 203 204 (((2 ^ 24)⁻¹ : ℝ) : EReal))

theorem less_at (a b : FVec Ideal S1x16x2048 .f32) (i : S1x16x2048.Idx) : subf a b i = a i - b i := rfl

theorem part7_at (X : FVec Ideal S1x16x2048x2048 .f32) (s : Fin 2048) (c : Fin 1024)
    (H : fn_part7 (F := Ideal) X (broadcastInDim S2048x2048 ![] bcast_S_S2048x2048 (constantI S_ 1 1#1)) (ix3 0 s c) = 1#1) (h : Fin 16) :
    Separated (fun j => X (ix4 0 h s j)) s := by
  unfold fn_part7 at H
  dsimp only at H
  have H1 := part8_at _ _ _ _ _ s c H h
  rw [early_at, gap_at, Ref.topK_value _ _ (by decide), Ref.topK_value _ _ (by decide), Ref.min_row_lit] at H1
  have eb : (fun j => fn_where (F := Ideal) (broadcastInDim S1x1x2048x2048 ![2, 3] bcast_S2048x2048_S1x1x2048x2048_2_3
        (fn_tril (F := Ideal) (broadcastInDim S2048x2048 ![] bcast_S_S2048x2048 (constantI S_ 1 1#1)))) X (constant S_ .f32 0xFF800000#32) (ix4 0 h s j))
      = Row.masked (fun j => X (ix4 0 h s j)) s.val ⊥ := by
    funext j; rw [masked_at, Spec.lit_bot]
  have et : (fun j => fn_where (F := Ideal) (broadcastInDim S1x1x2048x2048 ![2, 3] bcast_S2048x2048_S1x1x2048x2048_2_3
        (fn_tril (F := Ideal) (broadcastInDim S2048x2048 ![] bcast_S_S2048x2048 (constantI S_ 1 1#1)))) X (constant S_ .f32 0x7F800000#32) (ix4 0 h s j))
      = Row.masked (fun j => X (ix4 0 h s j)) s.val ⊤ := by
    funext j; rw [masked_at, Spec.lit_top]
  rw [et, eb, less_at, Ref.max_row_lit, Ref.min_row_lit, et, eb, masked_at, masked_at, Spec.lit_bot, Spec.lit_top, Spec.lit_step] at H1
  exact H1

/-- The products of the rotated queries and keys. -/
theorem products_at (cs sn : FVec Ideal S1x1x2048x32 .f32) (q : FVec Ideal S1x16x2048x64 .f32) (a b e : FVec Ideal S1x16x2048x32 .f32)
    (h : Fin 16) (s j : Fin 2048) (x : Fin 64) :
    mulf (F := Ideal) (φ := .f32) (broadcastInDim S1x16x2048x2048x64 ![0, 1, 2, 3, 4] bcast_S1x16x2048x1x64_S1x16x2048x2048x64_0_1_2_3_4 (broadcastInDim S1x16x2048x1x64 ![0, 1, 2, 4] bcast_S1x16x2048x64_S1x16x2048x1x64_0_1_2_4 q))
      (broadcastInDim S1x16x2048x2048x64 ![0, 1, 2, 3, 4] bcast_S1x16x1x2048x64_S1x16x2048x2048x64_0_1_2_3_4 (broadcastInDim S1x16x1x2048x64 ![0, 1, 3, 4] bcast_S1x16x2048x64_S1x16x1x2048x64_0_1_3_4
        (shapeCast S1x16x2048x64 (concatenate S1x16x2048x32x2 4 [⟨S1x16x2048x32x1, broadcastInDim S1x16x2048x32x1 ![0, 1, 2, 3] bcast_S1x16x2048x32_S1x16x2048x32x1_0_1_2_3
            (subf e (mulf b (broadcastInDim S1x16x2048x32 ![0, 1, 2, 3] bcast_S1x1x2048x32_S1x16x2048x32_0_1_2_3 sn)))⟩,
          ⟨S1x16x2048x32x1, broadcastInDim S1x16x2048x32x1 ![0, 1, 2, 3] bcast_S1x16x2048x32_S1x16x2048x32x1_0_1_2_3
            (addf (mulf a (broadcastInDim S1x16x2048x32 ![0, 1, 2, 3] bcast_S1x1x2048x32_S1x16x2048x32_0_1_2_3 sn))
              (mulf b (broadcastInDim S1x16x2048x32 ![0, 1, 2, 3] bcast_S1x1x2048x32_S1x16x2048x32_0_1_2_3 cs)))⟩]
            concatenates_S1x16x2048x32x1_S1x16x2048x32x1_S1x16x2048x32x2_d4) shapeCasts_S1x16x2048x32x2_S1x16x2048x64))) (ix5 0 h s j x)
      = q (ix4 0 h s x) * (if _h : x.val % 2 < 1 then e (ix4 0 h j ⟨x.val / 2, by omega⟩) - b (ix4 0 h j ⟨x.val / 2, by omega⟩) * sn (ix4 0 0 j ⟨x.val / 2, by omega⟩)
          else a (ix4 0 h j ⟨x.val / 2, by omega⟩) * sn (ix4 0 0 j ⟨x.val / 2, by omega⟩) + b (ix4 0 h j ⟨x.val / 2, by omega⟩) * cs (ix4 0 0 j ⟨x.val / 2, by omega⟩)) := by
  pointwise

/-- An array scaled by a literal. -/
theorem scaled_at (R : FVec Ideal S1x16x2048x2048 .f32) (z : BitVec 32) (h : Fin 16) (s j : Fin 2048) :
    mulf R (broadcastInDim S1x16x2048x2048 ![] bcast_S_S1x16x2048x2048 (constant S_ .f32 z)) (ix4 0 h s j) = R (ix4 0 h s j) * Ideal.ofBits .f32 z := by
  pointwise

theorem part6_at (cs sn : FVec Ideal S1x1x2048x32 .f32) (q : FVec Ideal S1x16x2048x64 .f32) (a b e : FVec Ideal S1x16x2048x32 .f32)
    (s : Fin 2048) (c : Fin 1024) (H : fn_part6 (F := Ideal) cs sn q a b e (ix3 0 s c) = 1#1) (h : Fin 16) (rk : Fin 2048 → Fin 64 → EReal)
    (hk : ∀ (j : Fin 2048) (x : Fin 64), (if _h : x.val % 2 < 1 then e (ix4 0 h j ⟨x.val / 2, by omega⟩) - b (ix4 0 h j ⟨x.val / 2, by omega⟩) * sn (ix4 0 0 j ⟨x.val / 2, by omega⟩)
          else a (ix4 0 h j ⟨x.val / 2, by omega⟩) * sn (ix4 0 0 j ⟨x.val / 2, by omega⟩) + b (ix4 0 h j ⟨x.val / 2, by omega⟩) * cs (ix4 0 0 j ⟨x.val / 2, by omega⟩)) = rk j x) :
    Separated (fun j => (∑ x : Fin 64, q (ix4 0 h s x) * rk j x) * Ideal.ofBits .f32 1040187392#32) s := by
  unfold fn_part6 at H
  dsimp only at H
  have H1 := part7_at _ s c H h
  refine cast (congrArg (Separated · s) (funext fun j => ?_)) H1
  rw [scaled_at, Ref.add_row5]
  refine congrArg (· * _) (Finset.sum_congr rfl fun x _ => ?_)
  rw [products_at, hk]

/-- The queries, rotated. -/
theorem rotated_at (Q : FVec Ideal S1x16x2048x64 .f32) (T : FVec Ideal S2048x32 .f32) (h : Fin 16) (s : Fin 2048) (x : Fin 64) :
    shapeCast S1x16x2048x64 (concatenate S1x16x2048x32x2 4 [⟨S1x16x2048x32x1, broadcastInDim S1x16x2048x32x1 ![0, 1, 2, 3] bcast_S1x16x2048x32_S1x16x2048x32x1_0_1_2_3
            (subf (mulf (Host.slice S1x16x2048x32 ![0, 0, 0, 0] ![1, 1, 1, 2] Q slicesBy_S1x16x2048x64_S1x16x2048x32_0s1_0s1_0s1_0s2) (broadcastInDim S1x16x2048x32 ![0, 1, 2, 3] bcast_S1x1x2048x32_S1x16x2048x32_0_1_2_3 (broadcastInDim S1x1x2048x32 ![2, 3] bcast_S2048x32_S1x1x2048x32_2_3 (Host.cos T))))
              (mulf (Host.slice S1x16x2048x32 ![0, 0, 0, 1] ![1, 1, 1, 2] Q slicesBy_S1x16x2048x64_S1x16x2048x32_0s1_0s1_0s1_1s2) (broadcastInDim S1x16x2048x32 ![0, 1, 2, 3] bcast_S1x1x2048x32_S1x16x2048x32_0_1_2_3 (broadcastInDim S1x1x2048x32 ![2, 3] bcast_S2048x32_S1x1x2048x32_2_3 (Host.sin T)))))⟩,
          ⟨S1x16x2048x32x1, broadcastInDim S1x16x2048x32x1 ![0, 1, 2, 3] bcast_S1x16x2048x32_S1x16x2048x32x1_0_1_2_3
            (addf (mulf (Host.slice S1x16x2048x32 ![0, 0, 0, 0] ![1, 1, 1, 2] Q slicesBy_S1x16x2048x64_S1x16x2048x32_0s1_0s1_0s1_0s2) (broadcastInDim S1x16x2048x32 ![0, 1, 2, 3] bcast_S1x1x2048x32_S1x16x2048x32_0_1_2_3 (broadcastInDim S1x1x2048x32 ![2, 3] bcast_S2048x32_S1x1x2048x32_2_3 (Host.sin T))))
              (mulf (Host.slice S1x16x2048x32 ![0, 0, 0, 1] ![1, 1, 1, 2] Q slicesBy_S1x16x2048x64_S1x16x2048x32_0s1_0s1_0s1_1s2) (broadcastInDim S1x16x2048x32 ![0, 1, 2, 3] bcast_S1x1x2048x32_S1x16x2048x32_0_1_2_3 (broadcastInDim S1x1x2048x32 ![2, 3] bcast_S2048x32_S1x1x2048x32_2_3 (Host.cos T)))))⟩]
            concatenates_S1x16x2048x32x1_S1x16x2048x32x1_S1x16x2048x32x2_d4) shapeCasts_S1x16x2048x32x2_S1x16x2048x64 (ix4 0 h s x)
      = if _h : x.val % 2 < 1 then Q (ix4 0 h s ⟨2 * (x.val / 2), by omega⟩) * Ideal.cos (T (ix2 s ⟨x.val / 2, by omega⟩)) - Q (ix4 0 h s ⟨1 + 2 * (x.val / 2), by omega⟩) * Ideal.sin (T (ix2 s ⟨x.val / 2, by omega⟩))
        else Q (ix4 0 h s ⟨2 * (x.val / 2), by omega⟩) * Ideal.sin (T (ix2 s ⟨x.val / 2, by omega⟩)) + Q (ix4 0 h s ⟨1 + 2 * (x.val / 2), by omega⟩) * Ideal.cos (T (ix2 s ⟨x.val / 2, by omega⟩)) := by
  pointwise

theorem part5_at (Q K : FVec Ideal S1x16x2048x64 .f32) (T : FVec Ideal S2048x32 .f32) (A : Spec.Args)
    (hQ : ∀ h s d, Q (ix4 0 h s d) = Spec.query A s (Spec.col h d)) (hK : ∀ h s d, K (ix4 0 h s d) = Spec.key A s (Spec.col h d))
    (hT : ∀ s d, T (ix2 s d) = Spec.angle A s d.val) (s : Fin 2048) (c : Fin 1024)
    (H : fn_part5 (F := Ideal) Q K T (ix3 0 s c) = 1#1) (h : Fin 16) : Separated (Spec.score A h s) s := by
  unfold fn_part5 at H
  dsimp only at H
  have H1 := part6_at _ _ _ _ _ _ s c H h (fun j x => Spec.rope A (Spec.key A) j (Spec.col h x)) (fun j x => by
    rw [← Spec.rope_pair]
    pointwise [hK, hT])
  refine cast (congrArg (Separated · s) (funext fun j => ?_)) H1
  unfold Spec.score
  refine congrArg (· * _) (Finset.sum_congr rfl fun x _ => congrArg (· * _) ?_)
  rw [rotated_at]
  simp only [hQ, hT]
  exact Spec.rope_pair A _ h s x

end Cert.Proof.Mask

end
-- ==== Proof.Ref.Condition.lean ====
module

public import proofs.«01_k».proof.Proof.Ref.Mask

/-!
# The condition of the claim, from the arguments
-/

@[expose] public section

noncomputable section

namespace Cert.Proof.Ref

open Cert.ReferenceIdeal Cert.ReferenceIdeal.Gen Cert.ReferenceIdeal.Value Idealize.ShloMosaic Idealize.ShloMosaic.TcCoe Idealize.ShloMosaic.StableHlo

variable (V : Valuation τ sig (Elt Ideal))

/-- The condition is a function of the same queries, keys and angles as the reference's scores. -/
theorem condition_eq : Cert.On_separated_rows.fn (F := Ideal) (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
      (V (Proc.devRef .tc main_arg7)) (V (Proc.devRef .tc main_arg8)) (V (Proc.devRef .tc main_arg9)) (V (Proc.devRef .tc main_arg10))
    = Cert.On_separated_rows.fn_part5 (F := Ideal) (res_main_v79 V) (res_main_v81 V) (res_main_v101 V) := rfl

/-- Where the condition is true, the row's scores are separated in every head. -/
theorem separated_at (s : Fin 2048) (c : Fin 1024)
    (H : Cert.On_separated_rows.fn (F := Ideal) (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
      (V (Proc.devRef .tc main_arg7)) (V (Proc.devRef .tc main_arg8)) (V (Proc.devRef .tc main_arg9)) (V (Proc.devRef .tc main_arg10)) (ix3 0 s c) = 1#1)
    (h : Fin 16) : Mask.Separated (Spec.score (args V) h s) s := by
  rw [condition_eq] at H
  exact Mask.part5_at _ _ _ (args V) (query_at V) (key_at V) (angle_at V) s c H h

end Cert.Proof.Ref

end
-- ==== Proof.Join.Agree.lean ====
module

public import proofs.«01_k».proof.Proof.Kern.Value
public import proofs.«01_k».proof.Proof.Kern.Run
public import proofs.«01_k».proof.Proof.Ref.Run
public import proofs.«01_k».proof.Proof.Ref.Condition

/-!
# The kernel and the reference agree on separated rows

Both results are `Spec.result` of the same arguments and of their own weights; on a row whose scores are separated in
every head the weights are the same.
-/

@[expose] public section

noncomputable section

namespace Cert.Proof.Join

open Idealize.ShloMosaic Idealize.ShloMosaic.TcCoe Idealize.SL.Sem

/-- On a separated row the kernel's weights are the reference's. -/
theorem weights_agree (A : Spec.Args) (h : Fin 16) (s : Fin 2048) (H : Mask.Separated (Spec.score A h s) s) :
    Kern.rowWeights A s h = Ref.weights A h s := by
  funext j
  have hv : ((204 : Fin 2048) : ℕ) = 204 := rfl
  exact Row.kernelWeight_eq (s := Spec.score A h s) (t := s) (iK := 203) (jK := 204) (Ref.order_bijective _)
    (fun i j hij => Ref.order_antitone _ i j hij) H.1 rfl Spec.lit_half 24 H.2 j

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two memories hold the same arguments on device `c`. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

/-- Memories that hold the same arguments launch both programs on the same arguments. -/
theorem args_agree (H : Same m m' c) : Ref.args (StableHlo.launchContents m' c) = Kern.launched m g c := by
  obtain ⟨h0, h1, h2, h3, h4, h5, h6, h7, h8, h9, h10⟩ := H
  have e : Ref.args (StableHlo.launchContents m' c) = Spec.Args.mk (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) := rfl
  rw [e, h0, h1, h2, h3, h4, h5, h6, h7, h8, h9, h10]
  rfl

/-- Where the condition is true of the kernel's arguments, the reference's result is the kernel's. -/
theorem results_agree (H : Same m m' c) (i : (⟨3, ![1, 2048, 1024]⟩ : Shape).Idx)
    (hi : Cert.On_separated_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) i = 1#1) :
    Ref.out (StableHlo.launchContents m' c) i = Cert.KernelIdeal.Gen.W11 m g c (Proc.devRef .tc Cert.KernelIdeal.main_v79) i := by
  have hA := args_agree m g m' c H
  obtain ⟨s, d, rfl⟩ : ∃ (s : Fin 2048) (d : Fin 1024), i = ix3 (0 : Fin 1) s d := ⟨i 1, i 2, by
    funext a
    match a with
    | ⟨0, _⟩ => exact Subsingleton.elim (α := Fin 1) _ _
    | ⟨1, _⟩ => rfl
    | ⟨2, _⟩ => rfl⟩
  obtain ⟨h0, h1, h2, h3, h4, h5, h6, h7, h8, h9, h10⟩ := H
  rw [← h0, ← h1, ← h2, ← h3, ← h4, ← h5, ← h6, ← h7, ← h8, ← h9, ← h10] at hi
  have hs := Ref.separated_at (StableHlo.launchContents m' c) s d hi
  refine (Ref.out_at _ s d).trans (Eq.trans ?_ (Kern.kernel_at m g c s d).symm)
  rw [hA] at hs ⊢
  exact congrArg (fun w => Spec.result _ w d) (funext fun h => (weights_agree _ h s (hs h)).symm)

end Cert.Proof.Join

end
-- ==== Proof.lean ====
/- The proof of the claims: the frames, the rewriting of nothing, and the equality of the results on separated rows. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Join.Agree
public import Idealize.ShloMosaic.Adequacy
public import Idealize.ShloMosaic.Init

@[expose] public section

noncomputable section

namespace Cert.Proof

open Idealize.ShloMosaic Idealize.SL.Sem Cert.Kernel

/-- On separated rows the kernel and the reference end with the same results. -/
theorem equal_on_separated_rows : Cert.algebraic_KernelIdeal_ReferenceIdeal_on_separated_rows := by
  intro m g m' g' _ H
  refine ⟨fun c => Cert.KernelIdeal.Gen.W11 m g c (Proc.devRef .tc Cert.KernelIdeal.main_v79), ?_, ?_⟩
  · exact (θ_run Cert.KernelIdeal.defs _ _).mono (fun _ h c => ⟨fun i _ => congrFun (h.1 c).1 i, (h.1 c).2⟩) (Kern.run m g)
  · exact (θ_run Cert.ReferenceIdeal.defs _ _).mono
      (fun _ h c => ⟨fun i hi => (congrFun (h c).1 i).trans (Join.results_agree m g m' c (H c) i hi), (h c).2⟩) (Ref.run m' g')

theorem claim : Cert.Claim := ⟨Cert.Kernel.Gen.facts, Cert.KernelIdeal.Gen.facts, Cert.ReferenceIdeal.Gen.facts, Mask.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, sem_eq_zero_of_no_sems (by decide) r.2⟩) (Cert.ReferenceIdeal.Value.run (F := Ideal) m ρ),
  trivial, equal_on_separated_rows⟩

end Cert.Proof

end
